-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S512x1024 : Shape := ⟨2, ![512, 1024]⟩
abbrev S1024x1024 : Shape := ⟨2, ![1024, 1024]⟩
abbrev S2048x1024 : Shape := ⟨2, ![2048, 1024]⟩
abbrev S_ : Shape := ⟨0, ![]⟩

class Facts : Prop where
  bcast_S_S512x1024 : S_.BroadcastsInDim S512x1024 (![] : Fin 0 → Fin S512x1024.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S512x1024 .f32) (main_arg1 : FVec F S1024x1024 .f32) (main_arg2 : FVec F S1024x1024 .f32) (main_arg3 : FVec F S2048x1024 .f32) (main_arg4 : FVec F S2048x1024 .f32) : IVec S512x1024 1 × IVec S1024x1024 1 × IVec S2048x1024 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x1024 .f32 := Host.absf main_arg3
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_scores_finite_ReferenceIdeal.lean ====
abbrev S512x1024 : Shape := ⟨2, ![512, 1024]⟩
abbrev S1024x8192 : Shape := ⟨2, ![1024, 8192]⟩
abbrev S8192x1024 : Shape := ⟨2, ![8192, 1024]⟩
abbrev S2048x8192 : Shape := ⟨2, ![2048, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S2048x8192 : S_.BroadcastsInDim S2048x8192 (![] : Fin 0 → Fin S2048x8192.rank)

variable [Facts]

def fn {F : FTy → Type} [FloatOps F] (main_arg0 : FVec F S512x1024 .f32) (main_arg1 : FVec F S1024x8192 .f32) (main_arg2 : FVec F S8192x1024 .f32) (main_arg3 : FVec F S2048x8192 .f32) (main_arg4 : FVec F S2048x8192 .f32) : IVec S512x1024 1 × IVec S1024x8192 1 × IVec S2048x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S2048x8192 .f32 := Host.absf main_arg3
  let main_cst_1 : FVec F S_ .f32 := constant S_ .f32 0x7F800000#32
  let main_v7 : FVec F S2048x8192 .f32 := broadcastInDim S2048x8192 ![] bcast_S_S2048x8192 main_cst_1
  let main_v8 : IVec S2048x8192 1 := cmpf .olt main_v6 main_v7
  (main_v2, main_v5, main_v8)
-- ==== Kernel.lean ====
abbrev S512x1024 : Shape := ⟨2, ![512, 1024]⟩
abbrev S1024x1024 : Shape := ⟨2, ![1024, 1024]⟩
abbrev S2048x1024 : Shape := ⟨2, ![2048, 1024]⟩
abbrev S2x8x32x1024 : Shape := ⟨4, ![2, 8, 32, 1024]⟩
abbrev S2x7x32x1024 : Shape := ⟨4, ![2, 7, 32, 1024]⟩
abbrev S256x1024 : Shape := ⟨2, ![256, 1024]⟩
abbrev S28 : Shape := ⟨1, ![28]⟩
abbrev S_ : Shape := ⟨0, ![]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S32x1024 : Shape := ⟨2, ![32, 1024]⟩
abbrev S1x1x32x1024 : Shape := ⟨4, ![1, 1, 32, 1024]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2x8x32x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .f32⟩
  | .local _ .vmem, ⟨4, _⟩ => ⟨S2048x1024, .f32⟩
  | .local _ .vmem, ⟨5, _⟩ => ⟨S2x8x32x1024, .f32⟩
  | .local _ .vmem, ⟨6, _⟩ => ⟨S2x8x32x1024, .bf16⟩
  | .local _ .vmem, ⟨7, _⟩ => ⟨S2x7x32x1024, .bf16⟩
  | .local _ .vmem, ⟨8, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_135 : BitVec 32) : Fin 4 → Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v218 : BitVec 32 := Scalar.addi v2 c1_i32_135
  let c8_i32_136 : BitVec 32 := 8#32
  let v219 : BitVec 32 := Scalar.remsi v218 c8_i32_136
  let c0_i32_146 : BitVec 32 := 0#32
  let c0_i32_147 : BitVec 32 := 0#32
  ![0, v219.toNat, 0, 0]
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v218 : BitVec 32 := Scalar.addi v2 c1_i32_135
  let c8_i32_136 : BitVec 32 := 8#32
  let v219 : BitVec 32 := Scalar.remsi v218 c8_i32_136
  let c1_i32_142 : BitVec 32 := 1#32
  let v220 : BitVec 32 := Scalar.muli v219 c1_i32_142
  let v221 : BitVec 32 := Scalar.addi c0_i32_143 v220
  v221.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v230 : BitVec 32 := Scalar.addi v2 c2_i32_148
  let c8_i32_149 : BitVec 32 := 8#32
  let v231 : BitVec 32 := Scalar.remsi v230 c8_i32_149
  let c1_i32_155 : BitVec 32 := 1#32
  let v232 : BitVec 32 := Scalar.muli v231 c1_i32_155
  let v233 : BitVec 32 := Scalar.addi c0_i32_156 v232
  v233.toNat
def k0_dev10 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_161 : BitVec 32 := 3#32
  let v242 : BitVec 32 := Scalar.addi v2 c3_i32_161
  let c8_i32_162 : BitVec 32 := 8#32
  let v243 : BitVec 32 := Scalar.remsi v242 c8_i32_162
  let c1_i32_168 : BitVec 32 := 1#32
  let v244 : BitVec 32 := Scalar.muli v243 c1_i32_168
  let v245 : BitVec 32 := Scalar.addi c0_i32_169 v244
  v245.toNat
def k0_dev11 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_174 : BitVec 32 := 4#32
  let v254 : BitVec 32 := Scalar.addi v2 c4_i32_174
  let c8_i32_175 : BitVec 32 := 8#32
  let v255 : BitVec 32 := Scalar.remsi v254 c8_i32_175
  let c1_i32_181 : BitVec 32 := 1#32
  let v256 : BitVec 32 := Scalar.muli v255 c1_i32_181
  let v257 : BitVec 32 := Scalar.addi c0_i32_182 v256
  v257.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_187 : BitVec 32 := 5#32
  let v266 : BitVec 32 := Scalar.addi v2 c5_i32_187
  let c8_i32_188 : BitVec 32 := 8#32
  let v267 : BitVec 32 := Scalar.remsi v266 c8_i32_188
  let c1_i32_194 : BitVec 32 := 1#32
  let v268 : BitVec 32 := Scalar.muli v267 c1_i32_194
  let v269 : BitVec 32 := Scalar.addi c0_i32_195 v268
  v269.toNat
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_200 : BitVec 32 := 6#32
  let v278 : BitVec 32 := Scalar.addi v2 c6_i32_200
  let c8_i32_201 : BitVec 32 := 8#32
  let v279 : BitVec 32 := Scalar.remsi v278 c8_i32_201
  let c1_i32_207 : BitVec 32 := 1#32
  let v280 : BitVec 32 := Scalar.muli v279 c1_i32_207
  let v281 : BitVec 32 := Scalar.addi c0_i32_208 v280
  v281.toNat
def k0_dev14 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_213 : BitVec 32 := 7#32
  let v290 : BitVec 32 := Scalar.addi v2 c7_i32_213
  let c8_i32_214 : BitVec 32 := 8#32
  let v291 : BitVec 32 := Scalar.remsi v290 c8_i32_214
  let c1_i32_220 : BitVec 32 := 1#32
  let v292 : BitVec 32 := Scalar.muli v291 c1_i32_220
  let v293 : BitVec 32 := Scalar.addi c0_i32_221 v292
  v293.toNat
def k0_off2 (d0 : Dev nD) : Fin 4 → Nat :=
  let c0_413 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v469 : Index := Scalar.indexCast v2
  let c0_414 : Index := 0#32
  let c0_415 : Index := 0#32
  ![0, v469.toNat, 0, 0]
def k0_off3 (d0 : Dev nD) : Fin 4 → Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_454 : BitVec 32 := 0#32
  let c0_i32_455 : BitVec 32 := 0#32
  ![0, v2.toNat, 0, 0]
def k0_dev15 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_447 : BitVec 32 := 1#32
  let v506 : BitVec 32 := Scalar.addi v2 c1_i32_447
  let c8_i32_448 : BitVec 32 := 8#32
  let v507 : BitVec 32 := Scalar.remsi v506 c8_i32_448
  let c1_i32_452 : BitVec 32 := 1#32
  let v508 : BitVec 32 := Scalar.muli v507 c1_i32_452
  let v509 : BitVec 32 := Scalar.addi c0_i32_453 v508
  v509.toNat
def k0_dev16 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_458 : BitVec 32 := 2#32
  let v518 : BitVec 32 := Scalar.addi v2 c2_i32_458
  let c8_i32_459 : BitVec 32 := 8#32
  let v519 : BitVec 32 := Scalar.remsi v518 c8_i32_459
  let c1_i32_463 : BitVec 32 := 1#32
  let v520 : BitVec 32 := Scalar.muli v519 c1_i32_463
  let v521 : BitVec 32 := Scalar.addi c0_i32_464 v520
  v521.toNat
def k0_dev17 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_469 : BitVec 32 := 3#32
  let v530 : BitVec 32 := Scalar.addi v2 c3_i32_469
  let c8_i32_470 : BitVec 32 := 8#32
  let v531 : BitVec 32 := Scalar.remsi v530 c8_i32_470
  let c1_i32_473 : BitVec 32 := 1#32
  let v532 : BitVec 32 := Scalar.muli v531 c1_i32_473
  let v533 : BitVec 32 := Scalar.addi c0_i32_474 v532
  v533.toNat
def k0_dev18 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_479 : BitVec 32 := 4#32
  let v542 : BitVec 32 := Scalar.addi v2 c4_i32_479
  let c8_i32_480 : BitVec 32 := 8#32
  let v543 : BitVec 32 := Scalar.remsi v542 c8_i32_480
  let c1_i32_484 : BitVec 32 := 1#32
  let v544 : BitVec 32 := Scalar.muli v543 c1_i32_484
  let v545 : BitVec 32 := Scalar.addi c0_i32_485 v544
  v545.toNat
def k0_dev19 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_490 : BitVec 32 := 5#32
  let v554 : BitVec 32 := Scalar.addi v2 c5_i32_490
  let c8_i32_491 : BitVec 32 := 8#32
  let v555 : BitVec 32 := Scalar.remsi v554 c8_i32_491
  let c1_i32_496 : BitVec 32 := 1#32
  let v556 : BitVec 32 := Scalar.muli v555 c1_i32_496
  let v557 : BitVec 32 := Scalar.addi c0_i32_497 v556
  v557.toNat
def k0_dev20 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_502 : BitVec 32 := 6#32
  let v566 : BitVec 32 := Scalar.addi v2 c6_i32_502
  let c8_i32_503 : BitVec 32 := 8#32
  let v567 : BitVec 32 := Scalar.remsi v566 c8_i32_503
  let c1_i32_508 : BitVec 32 := 1#32
  let v568 : BitVec 32 := Scalar.muli v567 c1_i32_508
  let v569 : BitVec 32 := Scalar.addi c0_i32_509 v568
  v569.toNat
def k0_dev21 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_514 : BitVec 32 := 7#32
  let v578 : BitVec 32 := Scalar.addi v2 c7_i32_514
  let c8_i32_515 : BitVec 32 := 8#32
  let v579 : BitVec 32 := Scalar.remsi v578 c8_i32_515
  let c1_i32_520 : BitVec 32 := 1#32
  let v580 : BitVec 32 := Scalar.muli v579 c1_i32_520
  let v581 : BitVec 32 := Scalar.addi c0_i32_521 v580
  v581.toNat
def k0_off4 (d0 : Dev nD) (c1_i32_603 : BitVec 32) : Fin 4 → Nat :=
  let c1_i32_605 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v702 : BitVec 32 := Scalar.addi v2 c1_i32_603
  let c8_i32_604 : BitVec 32 := 8#32
  let v703 : BitVec 32 := Scalar.remsi v702 c8_i32_604
  let c0_i32_612 : BitVec 32 := 0#32
  let c0_i32_613 : BitVec 32 := 0#32
  ![1, v703.toNat, 0, 0]
def k0_dev22 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_603 : BitVec 32 := 1#32
  let v702 : BitVec 32 := Scalar.addi v2 c1_i32_603
  let c8_i32_604 : BitVec 32 := 8#32
  let v703 : BitVec 32 := Scalar.remsi v702 c8_i32_604
  let c1_i32_608 : BitVec 32 := 1#32
  let v704 : BitVec 32 := Scalar.muli v703 c1_i32_608
  let v705 : BitVec 32 := Scalar.addi c0_i32_609 v704
  v705.toNat
def k0_dev23 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_614 : BitVec 32 := 2#32
  let v714 : BitVec 32 := Scalar.addi v2 c2_i32_614
  let c8_i32_615 : BitVec 32 := 8#32
  let v715 : BitVec 32 := Scalar.remsi v714 c8_i32_615
  let c1_i32_619 : BitVec 32 := 1#32
  let v716 : BitVec 32 := Scalar.muli v715 c1_i32_619
  let v717 : BitVec 32 := Scalar.addi c0_i32_620 v716
  v717.toNat
def k0_dev24 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_625 : BitVec 32 := 3#32
  let v726 : BitVec 32 := Scalar.addi v2 c3_i32_625
  let c8_i32_626 : BitVec 32 := 8#32
  let v727 : BitVec 32 := Scalar.remsi v726 c8_i32_626
  let c1_i32_630 : BitVec 32 := 1#32
  let v728 : BitVec 32 := Scalar.muli v727 c1_i32_630
  let v729 : BitVec 32 := Scalar.addi c0_i32_631 v728
  v729.toNat
def k0_dev25 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_636 : BitVec 32 := 4#32
  let v738 : BitVec 32 := Scalar.addi v2 c4_i32_636
  let c8_i32_637 : BitVec 32 := 8#32
  let v739 : BitVec 32 := Scalar.remsi v738 c8_i32_637
  let c1_i32_642 : BitVec 32 := 1#32
  let v740 : BitVec 32 := Scalar.muli v739 c1_i32_642
  let v741 : BitVec 32 := Scalar.addi c0_i32_643 v740
  v741.toNat
def k0_dev26 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_648 : BitVec 32 := 5#32
  let v750 : BitVec 32 := Scalar.addi v2 c5_i32_648
  let c8_i32_649 : BitVec 32 := 8#32
  let v751 : BitVec 32 := Scalar.remsi v750 c8_i32_649
  let c1_i32_655 : BitVec 32 := 1#32
  let v752 : BitVec 32 := Scalar.muli v751 c1_i32_655
  let v753 : BitVec 32 := Scalar.addi c0_i32_656 v752
  v753.toNat
def k0_dev27 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_661 : BitVec 32 := 6#32
  let v762 : BitVec 32 := Scalar.addi v2 c6_i32_661
  let c8_i32_662 : BitVec 32 := 8#32
  let v763 : BitVec 32 := Scalar.remsi v762 c8_i32_662
  let c1_i32_668 : BitVec 32 := 1#32
  let v764 : BitVec 32 := Scalar.muli v763 c1_i32_668
  let v765 : BitVec 32 := Scalar.addi c0_i32_669 v764
  v765.toNat
def k0_dev28 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_674 : BitVec 32 := 7#32
  let v774 : BitVec 32 := Scalar.addi v2 c7_i32_674
  let c8_i32_675 : BitVec 32 := 8#32
  let v775 : BitVec 32 := Scalar.remsi v774 c8_i32_675
  let c1_i32_681 : BitVec 32 := 1#32
  let v776 : BitVec 32 := Scalar.muli v775 c1_i32_681
  let v777 : BitVec 32 := Scalar.addi c0_i32_682 v776
  v777.toNat
def k0_off5 (d0 : Dev nD) (c1_i32_712 : BitVec 32) : Fin 4 → Nat :=
  let c0_715 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v808 : BitVec 32 := Scalar.subi v2 c1_i32_712
  let c8_i32_713 : BitVec 32 := 8#32
  let v809 : BitVec 32 := Scalar.addi v808 c8_i32_713
  let c8_i32_714 : BitVec 32 := 8#32
  let v810 : BitVec 32 := Scalar.remsi v809 c8_i32_714
  let v811 : Index := Scalar.indexCast v810
  let c0_716 : Index := 0#32
  let c0_717 : Index := 0#32
  ![0, v811.toNat, 0, 0]
def k0_off6 (d0 : Dev nD) : Fin 4 → Nat :=
  let c1_1036 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1067 : Index := Scalar.indexCast v2
  let c0_1037 : Index := 0#32
  let c0_1038 : Index := 0#32
  ![1, v1067.toNat, 0, 0]
def k0_off7 (d0 : Dev nD) : Fin 4 → Nat :=
  let c1_i32_1073 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1076 : BitVec 32 := 0#32
  let c0_i32_1077 : BitVec 32 := 0#32
  ![1, v2.toNat, 0, 0]
def k0_dev29 (d0 : Dev nD) : Nat :=
  let c0_i32_1075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1070 : BitVec 32 := 1#32
  let v1104 : BitVec 32 := Scalar.addi v2 c1_i32_1070
  let c8_i32_1071 : BitVec 32 := 8#32
  let v1105 : BitVec 32 := Scalar.remsi v1104 c8_i32_1071
  let c1_i32_1074 : BitVec 32 := 1#32
  let v1106 : BitVec 32 := Scalar.muli v1105 c1_i32_1074
  let v1107 : BitVec 32 := Scalar.addi c0_i32_1075 v1106
  v1107.toNat
def k0_dev30 (d0 : Dev nD) : Nat :=
  let c0_i32_1085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1080 : BitVec 32 := 2#32
  let v1116 : BitVec 32 := Scalar.addi v2 c2_i32_1080
  let c8_i32_1081 : BitVec 32 := 8#32
  let v1117 : BitVec 32 := Scalar.remsi v1116 c8_i32_1081
  let c1_i32_1084 : BitVec 32 := 1#32
  let v1118 : BitVec 32 := Scalar.muli v1117 c1_i32_1084
  let v1119 : BitVec 32 := Scalar.addi c0_i32_1085 v1118
  v1119.toNat
def k0_dev31 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1090 : BitVec 32 := 3#32
  let v1128 : BitVec 32 := Scalar.addi v2 c3_i32_1090
  let c8_i32_1091 : BitVec 32 := 8#32
  let v1129 : BitVec 32 := Scalar.remsi v1128 c8_i32_1091
  let c1_i32_1094 : BitVec 32 := 1#32
  let v1130 : BitVec 32 := Scalar.muli v1129 c1_i32_1094
  let v1131 : BitVec 32 := Scalar.addi c0_i32_1095 v1130
  v1131.toNat
def k0_dev32 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1100 : BitVec 32 := 4#32
  let v1140 : BitVec 32 := Scalar.addi v2 c4_i32_1100
  let c8_i32_1101 : BitVec 32 := 8#32
  let v1141 : BitVec 32 := Scalar.remsi v1140 c8_i32_1101
  let c1_i32_1105 : BitVec 32 := 1#32
  let v1142 : BitVec 32 := Scalar.muli v1141 c1_i32_1105
  let v1143 : BitVec 32 := Scalar.addi c0_i32_1106 v1142
  v1143.toNat
def k0_dev33 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1111 : BitVec 32 := 5#32
  let v1152 : BitVec 32 := Scalar.addi v2 c5_i32_1111
  let c8_i32_1112 : BitVec 32 := 8#32
  let v1153 : BitVec 32 := Scalar.remsi v1152 c8_i32_1112
  let c1_i32_1117 : BitVec 32 := 1#32
  let v1154 : BitVec 32 := Scalar.muli v1153 c1_i32_1117
  let v1155 : BitVec 32 := Scalar.addi c0_i32_1118 v1154
  v1155.toNat
def k0_dev34 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1123 : BitVec 32 := 6#32
  let v1164 : BitVec 32 := Scalar.addi v2 c6_i32_1123
  let c8_i32_1124 : BitVec 32 := 8#32
  let v1165 : BitVec 32 := Scalar.remsi v1164 c8_i32_1124
  let c1_i32_1129 : BitVec 32 := 1#32
  let v1166 : BitVec 32 := Scalar.muli v1165 c1_i32_1129
  let v1167 : BitVec 32 := Scalar.addi c0_i32_1130 v1166
  v1167.toNat
def k0_dev35 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1135 : BitVec 32 := 7#32
  let v1176 : BitVec 32 := Scalar.addi v2 c7_i32_1135
  let c8_i32_1136 : BitVec 32 := 8#32
  let v1177 : BitVec 32 := Scalar.remsi v1176 c8_i32_1136
  let c1_i32_1141 : BitVec 32 := 1#32
  let v1178 : BitVec 32 := Scalar.muli v1177 c1_i32_1141
  let v1179 : BitVec 32 := Scalar.addi c0_i32_1142 v1178
  v1179.toNat
def k0_off8 (d0 : Dev nD) (c1_i32_1172 : BitVec 32) : Fin 4 → Nat :=
  let c1_1175 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1210 : BitVec 32 := Scalar.subi v2 c1_i32_1172
  let c8_i32_1173 : BitVec 32 := 8#32
  let v1211 : BitVec 32 := Scalar.addi v1210 c8_i32_1173
  let c8_i32_1174 : BitVec 32 := 8#32
  let v1212 : BitVec 32 := Scalar.remsi v1211 c8_i32_1174
  let v1213 : Index := Scalar.indexCast v1212
  let c0_1176 : Index := 0#32
  let c0_1177 : Index := 0#32
  ![1, v1213.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x1024 : Shape := ⟨2, ![512, 1024]⟩
abbrev S1024x8192 : Shape := ⟨2, ![1024, 8192]⟩
abbrev S8192x1024 : Shape := ⟨2, ![8192, 1024]⟩
abbrev S2048x8192 : Shape := ⟨2, ![2048, 8192]⟩
abbrev S1x512x1024 : Shape := ⟨3, ![1, 512, 1024]⟩
abbrev S1x2048x64x128 : Shape := ⟨4, ![1, 2048, 64, 128]⟩
abbrev S1x512x8192 : Shape := ⟨3, ![1, 512, 8192]⟩
abbrev S1x512x64x128 : Shape := ⟨4, ![1, 512, 64, 128]⟩
abbrev S_ : Shape := ⟨0, ![]⟩
abbrev S1x64x512x1 : Shape := ⟨4, ![1, 64, 512, 1]⟩
abbrev S1x1024x64x128 : Shape := ⟨4, ![1, 1024, 64, 128]⟩
abbrev S1x64x512x1024 : Shape := ⟨4, ![1, 64, 512, 1024]⟩
abbrev S1x64x512 : Shape := ⟨3, ![1, 64, 512]⟩
abbrev S1x512x64x1 : Shape := ⟨4, ![1, 512, 64, 1]⟩
abbrev S1x64x128x512 : Shape := ⟨4, ![1, 64, 128, 512]⟩
abbrev S2x8x32x1024 : Shape := ⟨4, ![2, 8, 32, 1024]⟩

abbrev nBuf : Space → Nat
  | .hbm => 74
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S8192x1024, .f32⟩
  | .hbm, ⟨3, _⟩ => ⟨S2048x8192, .f32⟩
  | .hbm, ⟨4, _⟩ => ⟨S2048x8192, .f32⟩
  | .hbm, ⟨5, _⟩ => ⟨S1x512x1024, .f32⟩
  | .hbm, ⟨6, _⟩ => ⟨S1x2048x64x128, .f32⟩
  | .hbm, ⟨7, _⟩ => ⟨S1x2048x64x128, .f32⟩
  | .hbm, ⟨8, _⟩ => ⟨S1x512x8192, .f32⟩
  | .hbm, ⟨9, _⟩ => ⟨S1x512x64x128, .f32⟩
  | .hbm, ⟨10, _⟩ => ⟨S_, .f32⟩
  | .hbm, ⟨11, _⟩ => ⟨S1x512x64x128, .f32⟩
  | .hbm, ⟨12, _⟩ => ⟨S_, .f32⟩
  | .hbm, ⟨13, _⟩ => ⟨S1x64x512x1, .f32⟩
  | .hbm, ⟨14, _⟩ => ⟨S_, .f32⟩
  | .hbm, ⟨15, _⟩ => ⟨S1x64x512x1, .f32⟩
  | .hbm, ⟨16, _⟩ => ⟨S1x1024x64x128, .f32⟩
  | .hbm, ⟨17, _⟩ => ⟨S1x1024x64x128, .f32⟩
  | .hbm, ⟨18, _⟩ => ⟨S1x64x512x1024, .f32⟩
  | .hbm, ⟨19, _⟩ => ⟨S_, .f32⟩
  | .hbm, ⟨20, _⟩ => ⟨S1x64x512x1024, .f32⟩
  | .hbm, ⟨21, _⟩ => ⟨S1x64x512x1024, .f32⟩
  | .hbm, ⟨22, _⟩ => ⟨S_, .f32⟩
  | .hbm, ⟨23, _⟩ => ⟨S1x64x512, .f32⟩
  | .hbm, ⟨24, _⟩ => ⟨S1x64x512x1, .f32⟩
  | .hbm, ⟨25, _⟩ => ⟨S1x64x512x1, .f32⟩
  | .hbm, ⟨26, _⟩ => ⟨S1x64x512x1, .f32⟩
  | .hbm, ⟨27, _⟩ => ⟨S1x64x512x1, .f32⟩
  | .hbm, ⟨28, _⟩ => ⟨S1x64x512x1024, .f32⟩
  | .hbm, ⟨29, _⟩ => ⟨S1x64x512x1024, .f32⟩
  | .hbm, ⟨30, _⟩ => ⟨S1x64x512x1024, .f32⟩
  | .hbm, ⟨31, _⟩ => ⟨S1x64x512x1, .f32⟩
  | .hbm, ⟨32, _⟩ => ⟨S_, .f32⟩
  | .hbm, ⟨33, _⟩ => ⟨S1x64x512, .f32⟩
  | .hbm, ⟨34, _⟩ => ⟨S1x64x512x1, .f32⟩
  | .hbm, ⟨35, _⟩ => ⟨S1x64x512x1, .f32⟩
  | .hbm, ⟨36, _⟩ => ⟨S1x512x64x1, .f32⟩
  | .hbm, ⟨37, _⟩ => ⟨S1x512x64x128, .f32⟩
  | .hbm, ⟨38, _⟩ => ⟨S1x512x64x128, .f32⟩
  | .hbm, ⟨39, _⟩ => ⟨S1x64x128x512, .f32⟩
  | .hbm, ⟨40, _⟩ => ⟨S1x512x64x128, .f32⟩
  | .hbm, ⟨41, _⟩ => ⟨S1x512x64x128, .f32⟩
  | .hbm, ⟨42, _⟩ => ⟨S1x1024x64x128, .f32⟩
  | .hbm, ⟨43, _⟩ => ⟨S1x1024x64x128, .f32⟩
  | .hbm, ⟨44, _⟩ => ⟨S1x64x512x1024, .f32⟩
  | .hbm, ⟨45, _⟩ => ⟨S_, .f32⟩
  | .hbm, ⟨46, _⟩ => ⟨S1x64x512x1024, .f32⟩
  | .hbm, ⟨47, _⟩ => ⟨S1x64x512x1024, .f32⟩
  | .hbm, ⟨48, _⟩ => ⟨S_, .f32⟩
  | .hbm, ⟨49, _⟩ => ⟨S1x64x512, .f32⟩
  | .hbm, ⟨50, _⟩ => ⟨S1x64x512x1, .f32⟩
  | .hbm, ⟨51, _⟩ => ⟨S1x64x512x1, .f32⟩
  | .hbm, ⟨52, _⟩ => ⟨S1x64x512x1, .f32⟩
  | .hbm, ⟨53, _⟩ => ⟨S1x64x512x1, .f32⟩
  | .hbm, ⟨54, _⟩ => ⟨S1x64x512x1024, .f32⟩
  | .hbm, ⟨55, _⟩ => ⟨S1x64x512x1024, .f32⟩
  | .hbm, ⟨56, _⟩ => ⟨S1x64x512x1024, .f32⟩
  | .hbm, ⟨57, _⟩ => ⟨S1x64x512x1, .f32⟩
  | .hbm, ⟨58, _⟩ => ⟨S_, .f32⟩
  | .hbm, ⟨59, _⟩ => ⟨S1x64x512, .f32⟩
  | .hbm, ⟨60, _⟩ => ⟨S1x64x512x1, .f32⟩
  | .hbm, ⟨61, _⟩ => ⟨S1x64x512x1, .f32⟩
  | .hbm, ⟨62, _⟩ => ⟨S1x512x64x1, .f32⟩
  | .hbm, ⟨63, _⟩ => ⟨S1x512x64x128, .f32⟩
  | .hbm, ⟨64, _⟩ => ⟨S1x512x64x128, .f32⟩
  | .hbm, ⟨65, _⟩ => ⟨S1x64x128x512, .f32⟩
  | .hbm, ⟨66, _⟩ => ⟨S1x512x64x128, .f32⟩
  | .hbm, ⟨67, _⟩ => ⟨S1x512x64x128, .f32⟩
  | .hbm, ⟨68, _⟩ => ⟨S1x512x64x1, .f32⟩
  | .hbm, ⟨69, _⟩ => ⟨S1x512x64x128, .f32⟩
  | .hbm, ⟨70, _⟩ => ⟨S1x512x64x128, .f32⟩
  | .hbm, ⟨71, _⟩ => ⟨S1x512x8192, .f32⟩
  | .hbm, ⟨72, _⟩ => ⟨S1x512x1024, .f32⟩
  | .hbm, ⟨73, _⟩ => ⟨S2x8x32x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Vals.lean ====
/-
The values of the kernel's run, as functions of the blocks the eight devices hold.

A device computes its eight heads' attention rows in two halves of 256 rows; each half is multiplied by
the device's rows of the output projection and cut into eight chunks of 32 rows. Chunk `k` of a half goes to device `k`,
which adds the eight devices' chunks and sends the sum back to everyone.
-/
module

public import proofs.«01_k».proof.Proof.Gen.KernelIdeal
public import proofs.«01_k».proof.Proof.Gen.KernelIdeal.Skeleton
public import Idealize.ShloMosaic.Lib.ValueIdxCore

@[expose] public section

noncomputable section

namespace Cert.Attn

open Cert.KernelIdeal Cert.KernelIdeal.Gen
open Idealize.ShloMosaic Idealize.ShloMosaic.ValueIdx

variable {F : FTy → Type} [FloatOps F]

/-! ## The ring of devices -/

set_option backward.proofsInPublic true in
/-- The device `j + 1` places after `c`. -/
def up (c : Dev nD) (j : Fin 7) : Dev nD := ⟨(c.val + j.val + 1) % 8, Nat.mod_lt _ (by decide)⟩

theorem up_up_rev (c : Dev nD) (j : Fin 7) : up (up c j) j.rev = c := by revert c j; decide
theorem up_rev_up (c : Dev nD) (j : Fin 7) : up (up c j.rev) j = c := by revert c j; decide
theorem up_ne (c : Dev nD) (j : Fin 7) : up c j ≠ c := by revert c j; decide

/-! ## One device's attention rows -/

set_option backward.proofsInPublic true in
theorem slices_half : ∀ hh : Fin 2, S512x1024.Slices ![256 * hh.val, 0] S256x1024 := by decide
set_option backward.proofsInPublic true in
theorem slices_head : ∀ h : Fin 8, S256x1024.Slices ![0, 128 * h.val] S256x128 := by decide
set_option backward.proofsInPublic true in
theorem slices_chunk : ∀ k : Fin 8, S256x1024.Slices ![32 * k.val, 0] S32x1024 := by decide

/-- The columns of head `h` in a device's keys or values. -/
def col (K : Vec F S2048x1024 .f32) (h : Fin 8) : Vec F S2048x128 .f32 :=
  fun i => K (ix2 ⟨(i 0).val, (i 0).isLt⟩ ⟨128 * h.val + (i 1).val, by
    have h1 : (i 1).val < 128 := (i 1).isLt
    have h2 := h.isLt
    show _ < 1024
    omega⟩)

/-- The half's rows of the projected queries. -/
def half (q : FVec F S512x1024 .f32) (hh : Fin 2) : FVec F S256x1024 .f32 :=
  extractStridedSlice S256x1024 ![256 * hh.val, 0] q (slices_half hh)

/-- A head's scaled queries. -/
def headQ (q : FVec F S256x1024 .f32) (h : Fin 8) : FVec F S256x128 .f32 :=
  mulf (extractStridedSlice S256x128 ![0, 128 * h.val] q (slices_head h)) (broadcast S256x128 (Scalar.ofBits .f32 0x3DB504F3#32))

/-- The exponentials of a head's scores. -/
def headP (q : FVec F S256x1024 .f32) (h : Fin 8) (kc : Vec F S2048x128 .f32) : FVec F S256x2048 .f32 :=
  exp (matmul dot_S256x128_S2048x128_S256x2048_1_1_0_0_n_n none (headQ q h)
    (shapeCast S2048x128 kc shapeCasts_S2048x128_S2048x128) (constant S256x2048 .f32 0x00000000#32))

/-- A head's rows: the exponentials against the values, divided by their sum. -/
def headV (q : FVec F S256x1024 .f32) (h : Fin 8) (kc vc : Vec F S2048x128 .f32) : FVec F S256x128 .f32 :=
  shapeCast S256x128
    (divf
      (matmul dot_S256x2048_S2048x128_S256x128_1_0_0_1_n_n none (headP q h kc)
        (shapeCast S2048x128 vc shapeCasts_S2048x128_S2048x128) (constant S256x128 .f32 0x00000000#32))
      (broadcastTo S256x128
        (shapeCast S256x1 (multiReduction .add [1] S256 (headP q h kc) 0x00000000#32 reduces_S256x2048_S256 (.inl rfl) rfl)
          shapeCasts_S256_S256x1)
        broadcasts_S256x1_S256x128))
    shapeCasts_S256x128_S256x128

/-- The eight heads side by side. -/
def heads (q : FVec F S256x1024 .f32) (K V : Vec F S2048x1024 .f32) : Vec F S256x1024 .f32 :=
  fun i =>
    have h1 : (i 1).val < 1024 := (i 1).isLt
    headV q ⟨(i 1).val / 128, by omega⟩ (col K ⟨(i 1).val / 128, by omega⟩) (col V ⟨(i 1).val / 128, by omega⟩)
      (ix2 ⟨(i 0).val, (i 0).isLt⟩ ⟨(i 1).val % 128, Nat.mod_lt _ (by decide)⟩)

/-- Chunk `k` of a half's projected rows. -/
def chunk (o : Vec F S256x1024 .f32) (wo : Vec F S1024x1024 .f32) (k : Fin 8) : FVec F S1x1x32x1024 .bf16 :=
  shapeCast S1x1x32x1024
    (truncf .bf16 (extractStridedSlice S32x1024 ![32 * k.val, 0] (k0_pay18 o wo) (slices_chunk k)) bitsLt_bf16_f32)
    shapeCasts_S32x1024_S1x1x32x1024

/-- The sum of a device's own chunk and the seven it received. -/
def redOf (w : Vec F S1x1x32x1024 .bf16) (u : Fin 7 → Vec F S1x1x32x1024 .bf16) : FVec F S1x1x32x1024 .bf16 :=
  k0_pay62 (k0_pay61 w (u 0) (u 1)) (u 2) (u 3) (u 4) (u 5) (u 6)

/-- A summed chunk widened for the result. -/
def widen (w : Vec F S1x1x32x1024 .bf16) : FVec F S1x1x32x1024 .f32 := k0_pay1 w

/-! ## All devices -/

/-- The blocks the devices hold. -/
structure Inp (F : FTy → Type) where
  x : Dev nD → Vec F S512x1024 .f32
  wq : Dev nD → Vec F S1024x1024 .f32
  wo : Dev nD → Vec F S1024x1024 .f32
  k : Dev nD → Vec F S2048x1024 .f32
  v : Dev nD → Vec F S2048x1024 .f32

variable (A : Inp F)

/-- Device `c`'s projected queries. -/
def Inp.q (c : Dev nD) : FVec F S512x1024 .f32 := k0_pay2 (A.x c) (A.wq c)
/-- Device `c`'s attention rows of a half. -/
def Inp.o (hh : Fin 2) (c : Dev nD) : Vec F S256x1024 .f32 := heads (half (A.q c) hh) (A.k c) (A.v c)
/-- What device `c` sends device `k`. -/
def Inp.part (hh : Fin 2) (c k : Dev nD) : Vec F S1x1x32x1024 .bf16 := chunk (A.o hh c) (A.wo c) k
/-- What device `c` sends everyone. -/
def Inp.red (hh : Fin 2) (c : Dev nD) : Vec F S1x1x32x1024 .bf16 := redOf (A.part hh c c) (fun r => A.part hh (up c r) c)
/-- The result, the same on every device. -/
def Inp.out : Vec F S2x8x32x1024 .f32 :=
  fun i => widen (A.red ⟨(i 0).val, (i 0).isLt⟩ ⟨(i 1).val, (i 1).isLt⟩) (ix4 0 0 ⟨(i 2).val, (i 2).isLt⟩ ⟨(i 3).val, (i 3).isLt⟩)

/-! ## The values as the body's stretches name them -/

theorem pay4_eq (x : Vec F S512x1024 .f32) (wq : Vec F S1024x1024 .f32) (kc vc : Vec F S2048x128 .f32) :
    k0_pay4 x wq kc vc = headV (half (k0_pay2 x wq) 0) 0 kc vc := rfl
theorem pay6_eq (x : Vec F S512x1024 .f32) (wq : Vec F S1024x1024 .f32) (kc vc : Vec F S2048x128 .f32) :
    k0_pay6 (k0_pay5 x wq) kc vc = headV (half (k0_pay2 x wq) 0) 1 kc vc := rfl
theorem pay62_eq (w u0 u1 u2 u3 u4 u5 u6 : Vec F S1x1x32x1024 .bf16) :
    k0_pay38 (k0_pay36 w u0 u1 u2 u3 u4 u5) (k0_pay37 u6) = redOf w ![u0, u1, u2, u3, u4, u5, u6] := rfl
theorem pay19_eq (o : Vec F S256x1024 .f32) (wo : Vec F S1024x1024 .f32) : k0_pay19 o wo = chunk o wo 0 := rfl
theorem pay26_eq (o : Vec F S256x1024 .f32) (wo : Vec F S1024x1024 .f32) : k0_pay26 (k0_pay18 o wo) = chunk o wo 7 := rfl

end Cert.Attn

end
-- ==== Proof.Slab.lean ====
/-
The chunks of the two scratch buffers: which elements a chunk holds, and what a load, a store and a transfer through
one read and write.
-/
module

public import proofs.«01_k».proof.Proof.Vals

@[expose] public section

noncomputable section

namespace Cert.Attn

open Cert.KernelIdeal Cert.KernelIdeal.Gen
open Idealize.ShloMosaic Idealize.ShloMosaic.ValueIdx Idealize.ShloMosaic.TcCoe

/-- Two halves of `n` chunks of 32 rows. -/
abbrev slots (n : ℕ) : Shape := ⟨4, ![2, n, 32, 1024]⟩

/-- The elements of chunk `k` of half `hh`. -/
def slab (n hh k : ℕ) : Finset (slots n).Idx := Finset.univ.filter fun i => (i 0).val = hh ∧ (i 1).val = k

/-- Every chunk holding `w`. -/
def fill (n : ℕ) {α : Type} (w : S1x1x32x1024.Idx → α) : (slots n).Idx → α :=
  fun i => w (ix4 0 0 ⟨(i 2).val, (i 2).isLt⟩ ⟨(i 3).val, (i 3).isLt⟩)

theorem mem_slab {n hh k : ℕ} {i : (slots n).Idx} : i ∈ slab n hh k ↔ (i 0).val = hh ∧ (i 1).val = k := by
  unfold slab; rw [Finset.mem_filter]; exact ⟨fun h => h.2, fun h => ⟨Finset.mem_univ _, h⟩⟩

theorem slab_disjoint {n hh k hh' k' : ℕ} (h : ¬ (hh = hh' ∧ k = k')) : Disjoint (slab n hh k) (slab n hh' k') := by
  rw [Finset.disjoint_left]
  intro i hi hi'
  rw [mem_slab] at hi hi'
  exact h ⟨hi.1.symm.trans hi'.1, hi.2.symm.trans hi'.2⟩

variable {n hh k : ℕ} {off : Fin 4 → ℕ}

theorem unit_set (hoff : off = ![hh, k, 0, 0]) (inb : ∀ a, off a + S1x1x32x1024.size a ≤ (slots n).size a) :
    (Rect.unit (s := slots n) off S1x1x32x1024.size inb).set = slab n hh k := by
  subst hoff
  ext i
  rw [Rect.mem_set_unit, mem_slab]
  constructor
  · intro h
    have h0 := h 0
    have h1 := h 1
    change hh ≤ (i 0).val ∧ (i 0).val < hh + 1 at h0
    change k ≤ (i 1).val ∧ (i 1).val < k + 1 at h1
    omega
  · rintro ⟨h0, h1⟩ a
    have i2 : (i 2).val < 32 := (i 2).isLt
    have i3 : (i 3).val < 1024 := (i 3).isLt
    fin_cases a
    · change hh ≤ (i 0).val ∧ (i 0).val < hh + 1; omega
    · change k ≤ (i 1).val ∧ (i 1).val < k + 1; omega
    · change 0 ≤ (i 2).val ∧ (i 2).val < 0 + 32; omega
    · change 0 ≤ (i 3).val ∧ (i 3).val < 0 + 1024; omega

theorem fill_emb {α : Type} (w : S1x1x32x1024.Idx → α) (hoff : off = ![hh, k, 0, 0])
    (inb : ∀ a, off a + S1x1x32x1024.size a ≤ (slots n).size a) (j : S1x1x32x1024.Idx) :
    fill n w ((Rect.unit (s := slots n) off S1x1x32x1024.size inb).emb j) = w j := by
  subst hoff
  unfold fill
  congr 1
  funext a
  apply Fin.ext
  have e : ∀ a, (((Rect.unit (s := slots n) ![hh, k, 0, 0] S1x1x32x1024.size inb).emb j a : Fin _) : ℕ) = ![hh, k, 0, 0] a + (j a).val := by
    intro a
    rw [Rect.emb_apply]
    show ![hh, k, 0, 0] a + 1 * (j a).val = _
    rw [Nat.one_mul]
  have j0 : (j 0).val < 1 := (j 0).isLt
  have j1 : (j 1).val < 1 := (j 1).isLt
  revert e
  fin_cases a <;> intro e
  · change 0 = (j 0).val; omega
  · change 0 = (j 1).val; omega
  · exact (e 2).trans (Nat.zero_add _)
  · exact (e 3).trans (Nat.zero_add _)

theorem exists_emb (hoff : off = ![hh, k, 0, 0]) (inb : ∀ a, off a + S1x1x32x1024.size a ≤ (slots n).size a)
    {i : (slots n).Idx} (hi : i ∈ slab n hh k) : ∃ j : S1x1x32x1024.Idx, (Rect.unit (s := slots n) off S1x1x32x1024.size inb).emb j = i := by
  rw [← unit_set hoff inb] at hi
  exact LoadRect.exists_idx_of_mem _ hi

/-! ## Through the buffers' views -/

section Views
variable {F : FTy → Type}

abbrev cM : Memref sig .tc .vmem S2x8x32x1024 .bf16 := Memref.whole cc0_scratch0
abbrev rM : Memref sig .tc .vmem S2x7x32x1024 .bf16 := Memref.whole cc0_scratch1
abbrev tM : Memref sig .tc .vmem S256x1024 .f32 := Memref.whole cc0_scratch2
abbrev xM : Memref sig .tc .vmem S512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S2048x1024 .f32 := Memref.whole cc0_stg3_0
abbrev vM : Memref sig .tc .vmem S2048x1024 .f32 := Memref.whole cc0_stg4_0
abbrev oM : Memref sig .tc .vmem S2x8x32x1024 .f32 := Memref.whole cc0_stg5_0

theorem read_slab {κ : Kind} {sp : Space} {e : EltTy} (v : View sig κ sp (slots n) e) (f : v.ty.Contents (Elt F))
    (w : S1x1x32x1024.Idx → Elt F e) (hoff : off = ![hh, k, 0, 0])
    (inb : ∀ a, off a + S1x1x32x1024.size a ≤ (slots n).size a)
    (hf : ∀ i ∈ slab n hh k, v.read (Elt F) f i = fill n w i) :
    (v.slice (Rect.unit (s := slots n) off S1x1x32x1024.size inb)).read (Elt F) f = w := by
  funext j
  refine Eq.trans ?_ (fill_emb w hoff inb j)
  exact hf _ (by rw [← unit_set hoff inb]; exact LoadRect.idx_mem _ j)

theorem write_slab {κ : Kind} {sp : Space} {e : EltTy} (v : View sig κ sp (slots n) e) (f : v.ty.Contents (Elt F))
    (w : S1x1x32x1024.Idx → Elt F e) (hoff : off = ![hh, k, 0, 0])
    (inb : ∀ a, off a + S1x1x32x1024.size a ≤ (slots n).size a) {i : (slots n).Idx} (hi : i ∈ slab n hh k) :
    v.read (Elt F) ((v.slice (Rect.unit (s := slots n) off S1x1x32x1024.size inb)).write (Elt F) f w Finset.univ) i = fill n w i := by
  obtain ⟨j, rfl⟩ := exists_emb hoff inb hi
  exact (View.read_slice_write_emb (v := v) (Rect.unit (s := slots n) off S1x1x32x1024.size inb) f w (M := Finset.univ) (x := j) (Finset.mem_univ _)).trans (fill_emb w hoff inb j).symm

theorem write_slab_off {κ : Kind} {sp : Space} {e : EltTy} (v : View sig κ sp (slots n) e) (f : v.ty.Contents (Elt F))
    (w : S1x1x32x1024.Idx → Elt F e) (hoff : off = ![hh, k, 0, 0])
    (inb : ∀ a, off a + S1x1x32x1024.size a ≤ (slots n).size a) {i : (slots n).Idx} (hi : i ∉ slab n hh k) :
    v.read (Elt F) ((v.slice (Rect.unit (s := slots n) off S1x1x32x1024.size inb)).write (Elt F) f w Finset.univ) i = v.read (Elt F) f i := by
  refine View.read_slice_write_of_not_mem (v := v) (Rect.unit (s := slots n) off S1x1x32x1024.size inb) f w Finset.univ (y := i) fun hm => hi ?_
  obtain ⟨j, -, hj⟩ := Finset.mem_map.mp hm
  rw [← unit_set hoff inb, ← hj]; exact LoadRect.idx_mem _ j

theorem write_slab_reshape {κ : Kind} {sp : Space} {e : EltTy} (v : View sig κ sp (slots n) e) (f : v.ty.Contents (Elt F))
    (w : S1x1x32x1024.Idx → Elt F e) (hoff : off = ![hh, k, 0, 0])
    (inb : ∀ a, off a + S1x1x32x1024.size a ≤ (slots n).size a) (h : S32x1024.numel = S1x1x32x1024.numel)
    {i : (slots n).Idx} (hi : i ∈ slab n hh k) :
    v.read (Elt F) (((v.slice (Rect.unit (s := slots n) off S1x1x32x1024.size inb)).reshape S32x1024 h).write (Elt F) f
      (fun y => w (Shape.reshapeEquiv h y)) Finset.univ) i = fill n w i := by
  obtain ⟨j, rfl⟩ := exists_emb hoff inb hi
  obtain ⟨y, rfl⟩ := (Shape.reshapeEquiv h).surjective j
  refine Eq.trans ?_ (fill_emb w hoff inb _).symm
  exact congrFun (View.read_write_univ (v := (v.slice (Rect.unit (s := slots n) off S1x1x32x1024.size inb)).reshape S32x1024 h) f
    (fun y => w (Shape.reshapeEquiv h y))) y

theorem read_slab_reshape {κ : Kind} {sp : Space} {e : EltTy} (v : View sig κ sp (slots n) e) (f : v.ty.Contents (Elt F))
    (w : S1x1x32x1024.Idx → Elt F e) (hoff : off = ![hh, k, 0, 0])
    (inb : ∀ a, off a + S1x1x32x1024.size a ≤ (slots n).size a) (h : S32x1024.numel = S1x1x32x1024.numel)
    (hf : ∀ i ∈ slab n hh k, v.read (Elt F) f i = fill n w i) :
    ((v.slice (Rect.unit (s := slots n) off S1x1x32x1024.size inb)).reshape S32x1024 h).read (Elt F) f
      = fun y => w (Shape.reshapeEquiv h y) := by
  funext y
  exact congrFun (read_slab v f w hoff inb hf) (Shape.reshapeEquiv h y)

end Views

end Cert.Attn

end
-- ==== Proof.Proto.lean ====
/-
The protocol of the kernel's transfers: the semaphore cells, what each hands over, what each device owes, and in which
order the cells may be waited for.

Every device signals the seven others' barrier and hands each the two slots of its receive buffer that device will
write. A half then goes through two stages of seven transfers each: the chunks out to their devices (scatter), and the
sums back to everyone (gather). Transfer `7 q + j` is the transfer of stage `q` to the device `j + 1` places ahead.
-/
module

public import proofs.«01_k».proof.Proof.Slab
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore, and the send and receive semaphores of transfer `i`. -/
abbrev barS : Sem sig := (SemArray.scalar (sig.barrier 0 rfl) : Sems sig S_).sem
def sendS (i : Fin 28) : DmaSem sig := ⟨6 + i.val, by have := i.isLt; show _ < 62; omega⟩
def recvS (i : Fin 28) : DmaSem sig := ⟨34 + i.val, by have := i.isLt; show _ < 62; omega⟩

abbrev barCell (c : Dev nD) : GSem nD τ sig := ((c : Thread nD τ), .reg barS)
abbrev sendCell (c : Dev nD) (i : Fin 28) : GSem nD τ sig := ((c : Thread nD τ), .dma (sendS i))
abbrev recvCell (c : Dev nD) (i : Fin 28) : GSem nD τ sig := ((c : Thread nD τ), .dma (recvS i))

/-- A chunk's credit. -/
abbrev N : ℕ := Ref.dmaCredit (cc0_scratch0 : Ref sig .tc) S32x1024 .bf16
theorem N_eq : Ref.dmaCredit (cc0_scratch1 : Ref sig .tc) S32x1024 .bf16 = N := rfl
theorem N_pos : 0 < N := by decide

/-- The stage's half, and the place of a transfer in its stage. -/
def hf (i : Fin 28) : Fin 2 := ⟨i.val / 14, by omega⟩
def pos (i : Fin 28) : Fin 7 := ⟨i.val % 7, Nat.mod_lt _ (by decide)⟩
/-- The receive semaphore of the transfer issued as number `k`, on the device it goes to. -/
def rx (k : Fin 28) : Fin 28 := ⟨7 * (k.val / 7) + (6 - k.val % 7), by omega⟩
/-- Whether transfer `i` belongs to a gather stage. -/
abbrev Gather (i : Fin 28) : Prop := i.val / 7 % 2 = 1

theorem sem_slice (base : ℕ) (hb : base + S28.numel ≤ 62) (i : Fin 28) (inb : ∀ a, (![i.val] : Fin 1 → ℕ) a + S1.size a ≤ S28.size a) :
    ((((SemArray.consecutive base S28 hb : SemArray (Fin 62) S28).slice (Rect.unit (s := S28) ![i.val] S1.size inb)).squeeze S_ squeezes_S1_S_).sem).val
      = base + i.val := by
  show base + (S28.rowMajor _).val = _
  rw [Shape.rowMajor_val_one]
  congr 1
  show i.val + 1 * _ = _
  have h : ∀ x : S1.Idx, (x 0).val = 0 := fun x => Nat.lt_one_iff.mp (x 0).isLt
  exact (congrArg (fun t => i.val + 1 * t) (h _)).trans (by omega)

theorem sendS_eq (i : Fin 28) (inb : ∀ a, (![i.val] : Fin 1 → ℕ) a + S1.size a ≤ S28.size a) :
    ((cc0_scratch3.slice (Rect.unit (s := S28) ![i.val] S1.size inb)).squeeze S_ squeezes_S1_S_).sem = sendS i :=
  Fin.ext (sem_slice 6 _ i inb)
theorem recvS_eq (i : Fin 28) (inb : ∀ a, (![i.val] : Fin 1 → ℕ) a + S1.size a ≤ S28.size a) :
    ((cc0_scratch4.slice (Rect.unit (s := S28) ![i.val] S1.size inb)).squeeze S_ squeezes_S1_S_).sem = recvS i :=
  Fin.ext (sem_slice 34 _ i inb)

/-! ## Contents -/

/-- Chunk `k` of half `hh` of a device's own chunks. -/
def cPt (c : Dev nD) (hh k : ℕ) (q : PosShare TreeShare) (w : Vec F S1x1x32x1024 .bf16) : sProp 𝕄 :=
  ((c : Thread nD τ).loc cc0_scratch0) ↦[slab 8 hh k]{q} (fill 8 w : Buf (Elt F) ((c : Thread nD τ).loc cc0_scratch0))
/-- Slot `k` of half `hh` of a device's receive buffer. -/
def rPt (c : Dev nD) (hh k : ℕ) (w : Vec F S1x1x32x1024 .bf16) : sProp 𝕄 :=
  ((c : Thread nD τ).loc cc0_scratch1) ↦[slab 7 hh k]{fullShare} (fill 7 w : Buf (Elt F) ((c : Thread nD τ).loc cc0_scratch1))
/-- The same slot at any contents. -/
def rAny (c : Dev nD) (hh k : ℕ) : sProp 𝕄 :=
  iprop(∃ f : Buf (Elt F) ((c : Thread nD τ).loc cc0_scratch1), ((c : Thread nD τ).loc cc0_scratch1) ↦[slab 7 hh k]{fullShare} f)

/-- What is left of a whole chunk after `n` of its pieces are lent, and the `n`-th piece. -/
def keep : ℕ → PosShare TreeShare
  | 0 => fullShare
  | n + 1 => (keep n).left
def lent (n : ℕ) : PosShare TreeShare := (keep n).right

instance cPt_storable (c : Dev nD) (hh k : ℕ) (q) (w) : BI.Storable (upEmb : UEmb _ 𝕄) (cPt (F := F) c hh k q w) := by unfold cPt; infer_instance
instance rPt_storable (c : Dev nD) (hh k : ℕ) (w) : BI.Storable (upEmb : UEmb _ 𝕄) (rPt (F := F) c hh k w) := by unfold rPt; infer_instance
instance rAny_storable (c : Dev nD) (hh k : ℕ) : BI.Storable (upEmb : UEmb _ 𝕄) (rAny (F := F) c hh k) := by unfold rAny; infer_instance

/-! ## The schedule -/

variable (A : Inp F)

/-- The signal of duty `j` on `c`'s barrier, from the device `s` with `up s j = c`, hands `c` the two slots `j` of
    `s`'s receive buffer that `c` writes. -/
def barPay (c : Dev nD) (j : Fin 7) : sProp 𝕄 :=
  iprop(rAny (up c j.rev) 0 j.val ∗ rAny (up c j.rev) 1 j.val)

/-- What arrives with receive semaphore `i` on device `c`, from the device `s = up c (pos i)`: in a scatter stage `s`'s
    chunk for `c` in the slot, with the right to write `s`'s own copy of it; in a gather stage the sum of `s`'s chunk. -/
def recvPay (c : Dev nD) (i : Fin 28) : sProp 𝕄 :=
  if Gather i then cPt c (hf i).val (up c (pos i)).val fullShare (A.red (hf i) (up c (pos i)))
  else iprop(rPt c (hf i).val (pos i).val (A.part (hf i) (up c (pos i)) c)
    ∗ cPt (up c (pos i)) (hf i).val c.val fullShare (A.part (hf i) (up c (pos i)) c))

/-- What comes back with send semaphore `i`: in a gather stage the lent piece of the summed chunk. -/
def sendPay (c : Dev nD) (i : Fin 28) : sProp 𝕄 :=
  if Gather i then cPt c (hf i).val c.val (lent (pos i).val) (A.red (hf i) c) else iprop(emp)

/-- What a semaphore's duty `d` hands its device. -/
def pay (c : Dev nD) (d : Fin 7) : SemLoc sig → sProp 𝕄
  | .reg s => barPay c d
  | .dma s => if h : 34 ≤ s.val ∧ s.val < 62 then recvPay A c ⟨s.val - 34, by omega⟩
      else if h : 6 ≤ s.val ∧ s.val < 34 then sendPay A c ⟨s.val - 6, by omega⟩ else iprop(emp)

def semDuties : SemLoc sig → Finset (Fin 7)
  | .reg s => if s = barS then Finset.univ else ∅
  | .dma s => if 6 ≤ s.val then {0} else ∅

def semAmount : SemLoc sig → ℕ
  | .reg _ => 1
  | .dma _ => N

/-- One round: a barrier has the seven duties of one unit each, a send or receive semaphore one duty of a chunk's credit. -/
def Rd : Rounds.Schedule (GSem nD τ sig) (Fin 7) 𝕄 where
  duties g r := if r = 0 ∧ g.1.2 = .tc then semDuties g.2 else ∅
  unitless _ := False
  amount g _ _ := semAmount g.2
  payload g _ d := pay A g.1.1 d g.2
  amount_pos g _ _ _ := by
    rcases g with ⟨t, s | s⟩
    · exact Nat.one_pos
    · exact N_pos

instance Rd_payload_storable (g : GSem nD τ sig) (r : ℕ) (d : Fin 7) :
    BI.Storable (upEmb : UEmb _ 𝕄) ((Rd (F := F) A).payload g r d) := by
  show BI.Storable upEmb (pay A g.1.1 d g.2)
  rcases g with ⟨t, s | s⟩
  · show BI.Storable upEmb (barPay (F := F) t.1 d)
    unfold barPay; infer_instance
  · show BI.Storable upEmb (if h : 34 ≤ s.val ∧ s.val < 62 then recvPay A t.1 ⟨s.val - 34, by omega⟩
      else if h : 6 ≤ s.val ∧ s.val < 34 then sendPay A t.1 ⟨s.val - 6, by omega⟩ else iprop(emp))
    unfold recvPay sendPay
    (repeat' split) <;> infer_instance

section Sched
variable (c : Dev nD) (i : Fin 28)

theorem duties_bar : (Rd A).duties (barCell c) 0 = Finset.univ := by
  show (if (0 = 0 ∧ ((c : Thread nD τ)).2 = .tc) then semDuties (.reg barS) else ∅) = _
  rw [if_pos ⟨rfl, rfl⟩]; show (if barS = barS then Finset.univ else ∅) = Finset.univ; exact if_pos rfl
theorem duties_send : (Rd A).duties (sendCell c i) 0 = {0} := by
  show (if (0 = 0 ∧ ((c : Thread nD τ)).2 = .tc) then semDuties (.dma (sendS i)) else ∅) = _
  rw [if_pos ⟨rfl, rfl⟩]; exact if_pos (Nat.le_add_right _ _)
theorem duties_recv : (Rd A).duties (recvCell c i) 0 = {0} := by
  show (if (0 = 0 ∧ ((c : Thread nD τ)).2 = .tc) then semDuties (.dma (recvS i)) else ∅) = _
  rw [if_pos ⟨rfl, rfl⟩]; exact if_pos (Nat.le_trans (by decide) (Nat.le_add_right 34 _))
theorem duties_later (g : GSem nD τ sig) : ∀ r, 1 ≤ r → (Rd A).duties g r = ∅ :=
  fun r hr => if_neg fun h => by omega

theorem expect_bar : (Rd A).expect (barCell c) 0 = 7 := by
  unfold Schedule.expect Schedule.amountOf
  rw [duties_bar]
  show (∑ _d : Fin 7, 1) = 7
  decide
theorem expect_send : (Rd A).expect (sendCell c i) 0 = N := by
  unfold Schedule.expect Schedule.amountOf; rw [duties_send, Finset.sum_singleton]; rfl
theorem expect_recv : (Rd A).expect (recvCell c i) 0 = N := by
  unfold Schedule.expect Schedule.amountOf; rw [duties_recv, Finset.sum_singleton]; rfl

theorem payload_bar (d : Fin 7) : (Rd A).payload (barCell c) 0 d = barPay c d := rfl
theorem payload_send (d : Fin 7) : (Rd A).payload (sendCell c i) 0 d = sendPay A c i := by
  have hi := i.isLt
  have hv : (sendS i).val = 6 + i.val := rfl
  show (if h : 34 ≤ (sendS i).val ∧ (sendS i).val < 62 then recvPay A c ⟨(sendS i).val - 34, by omega⟩
    else if h : 6 ≤ (sendS i).val ∧ (sendS i).val < 34 then sendPay A c ⟨(sendS i).val - 6, by omega⟩ else iprop(emp)) = _
  rw [dif_neg (by omega), dif_pos (by omega)]
  congr 1
  exact Fin.ext (by show 6 + i.val - 6 = i.val; omega)
theorem payload_recv (d : Fin 7) : (Rd A).payload (recvCell c i) 0 d = recvPay A c i := by
  have hi := i.isLt
  have hv : (recvS i).val = 34 + i.val := rfl
  show (if h : 34 ≤ (recvS i).val ∧ (recvS i).val < 62 then recvPay A c ⟨(recvS i).val - 34, by omega⟩
    else if h : 6 ≤ (recvS i).val ∧ (recvS i).val < 34 then sendPay A c ⟨(recvS i).val - 6, by omega⟩ else iprop(emp)) = _
  rw [dif_pos (by omega)]
  congr 1
  exact Fin.ext (by show 34 + i.val - 34 = i.val; omega)

theorem rest_bar : bigSep ((Rd A).duties (barCell c) 0 \ ∅) (fun d => (Rd A).payload (barCell c) 0 d)
    = bigSep Finset.univ (fun j : Fin 7 => barPay (F := F) c j) := by
  rw [Finset.sdiff_empty, duties_bar]; rfl
theorem rest_send : bigSep ((Rd A).duties (sendCell c i) 0 \ ∅) (fun d => (Rd A).payload (sendCell c i) 0 d) = sendPay A c i := by
  rw [Finset.sdiff_empty, duties_send, bigSep_singleton, payload_send]
theorem rest_recv : bigSep ((Rd A).duties (recvCell c i) 0 \ ∅) (fun d => (Rd A).payload (recvCell c i) 0 d) = recvPay A c i := by
  rw [Finset.sdiff_empty, duties_recv, bigSep_singleton, payload_recv]

end Sched

/-! ## What each device owes, and the order of the waits -/

/-- The place of the device transfer `k` goes to. -/
abbrev dst (c : Dev nD) (k : Fin 28) : Dev nD := up c (pos k)

/-- The obligation settled with `n` others after it: transfer `27 - n`'s arrival, or before those the signal of number `34 - n`. -/
def ob (c : Dev nD) (n : ℕ) : CellTallies nD τ sig Unit :=
  if h : n < 28 then tallyAt (recvCell (dst c ⟨27 - n, by omega⟩) (rx ⟨27 - n, by omega⟩)) () N
  else tallyAt (barCell (up c ⟨(34 - n) % 7, Nat.mod_lt _ (by decide)⟩)) () 1

/-- The last `n` obligations. -/
def owe (c : Dev nD) : ℕ → CellTallies nD τ sig Unit
  | 0 => 0
  | n + 1 => owe c n + ob c n

def L (g : GSem nD τ sig) : Finset Unit := if g.1.2 = .tc then {()} else ∅

def semLv : SemLoc sig → ℕ
  | .reg _ => 1
  | .dma s => if 34 ≤ s.val then (s.val - 34) / 7 + 2 else 0
/-- The barrier below the four stages' receive semaphores in their order; the others below all. -/
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- The level of obligation `n`. -/
def obLv (n : ℕ) : ℕ := if n < 28 then (27 - n) / 7 + 2 else 1

theorem semLv_recv (i : Fin 28) : semLv (.dma (recvS i)) = i.val / 7 + 2 := by
  show (if 34 ≤ 34 + i.val then (34 + i.val - 34) / 7 + 2 else 0) = _
  rw [if_pos (Nat.le_add_right _ _), Nat.add_sub_cancel_left]

theorem ob_pos {c : Dev nD} {n : ℕ} {g : GSem nD τ sig} {u : Unit} (h : 0 < ob c n g u) : L g = {()} ∧ lv g u = obLv n := by
  unfold ob at h
  unfold obLv
  split at h
  · rename_i hn
    rw [tallyAt_apply] at h
    split at h
    · rename_i hg
      obtain ⟨rfl, -⟩ := hg
      refine ⟨L_tc _ _, ?_⟩
      rw [if_pos hn]
      show semLv (.dma (recvS _)) = _
      rw [semLv_recv]
      show (7 * ((27 - n) / 7) + (6 - (27 - n) % 7)) / 7 + 2 = _
      omega
    · exact absurd h (Nat.lt_irrefl 0)
  · rename_i hn
    rw [tallyAt_apply] at h
    split at h
    · rename_i hg
      obtain ⟨rfl, -⟩ := hg
      exact ⟨L_tc _ _, (if_neg hn).symm⟩
    · exact absurd h (Nat.lt_irrefl 0)

theorem owe_pos {c : Dev nD} {g : GSem nD τ sig} {u : Unit} : ∀ {n : ℕ}, 0 < owe c n g u → ∃ k < n, 0 < ob c k g u
  | 0, h => absurd h (Nat.lt_irrefl 0)
  | n + 1, h => by
    have h' : 0 < owe c n g u + ob c n g u := h
    rcases Nat.eq_zero_or_pos (ob c n g u) with h0 | h0
    · rw [h0, Nat.add_zero] at h'
      obtain ⟨k, hk, hk'⟩ := owe_pos h'
      exact ⟨k, by omega, hk'⟩
    · exact ⟨n, by omega, h0⟩

/-- A semaphore may be waited for while the last `n` obligations are open if each is above it. -/
theorem mayWait (c : Dev nD) (sm : SemLoc sig) (n : ℕ) (h : ∀ k < n, semLv sm < obLv k) :
    (levAts L lv : sProp 𝕄) ⊢ MayWait (c : Thread nD τ) sm () (owe c n) :=
  MayOwe.of_cut (L := L) (lev := lv) (semLv sm) (fun p hp => by rw [Finset.mem_singleton.mp hp, L_tc]; exact Finset.mem_singleton_self _)
    (fun g u hg => by obtain ⟨k, -, hk⟩ := owe_pos hg; rw [(ob_pos hk).1]; exact Finset.mem_singleton_self _)
    (fun p hp => by rw [Finset.mem_singleton.mp hp]; exact le_refl _)
    (fun g u hg => by obtain ⟨k, hkn, hk⟩ := owe_pos hg; rw [(ob_pos hk).2]; exact h k hkn)

theorem mayWait_bar (c : Dev nD) : (levAts L lv : sProp 𝕄) ⊢ MayWait (c : Thread nD τ) (.reg barS) () (owe c 28) :=
  mayWait c _ 28 fun k hk => by
    show 1 < obLv k
    unfold obLv; rw [if_pos hk]; omega

theorem mayWait_low (c : Dev nD) (s : DmaSem sig) (hs : s.val < 34) (n : ℕ) :
    (levAts L lv : sProp 𝕄) ⊢ MayWait (c : Thread nD τ) (.dma s) () (owe c n) :=
  mayWait c _ n fun k _ => by
    show (if 34 ≤ s.val then _ else 0) < _
    rw [if_neg (by omega)]; unfold obLv; split <;> omega

theorem mayWait_recv (c : Dev nD) (i : Fin 28) (n : ℕ) (hn : n ≤ 21 - 7 * (i.val / 7)) :
    (levAts L lv : sProp 𝕄) ⊢ MayWait (c : Thread nD τ) (.dma (recvS i)) () (owe c n) :=
  mayWait c _ n fun k hk => by
    have := i.isLt
    rw [semLv_recv]; unfold obLv; rw [if_pos (by omega)]; omega

end Cert.Attn

end
-- ==== Proof.Rules.lean ====
/-
One rule for each kind of step the body takes, at any device and any transfer: the signals, the waits, the transfers of
the two kinds of stage, and the loads and stores of the buffers.
-/
module

public import proofs.«01_k».proof.Proof.Proto

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## What every device knows -/

/-- A device's cells: its barrier, its send semaphores and its receive semaphores. -/
abbrev CI : Type := Option (Bool × Fin 28)
abbrev csem : CI → SemLoc sig
  | none => .reg barS
  | some (false, i) => .dma (sendS i)
  | some (true, i) => .dma (recvS i)
abbrev kcell (p : Dev nD × CI) : GSem nD τ sig := ((p.1 : Thread nD τ), csem p.2)

variable (A : Inp F) (K : Dev nD × CI → ℕ)

/-- Every cell follows the schedule and has reached its round, and the levels are as fixed. -/
def ctx : sProp 𝕄 :=
  iprop(bigSep Finset.univ (fun p : Dev nD × CI => cellInv ER (Rd A) (K p) (kcell p))
    ∗ bigSep Finset.univ (fun p : Dev nD × CI => reached ER (kcell p) 0) ∗ levAts L lv)

instance ctx_persistent : Persistent (ctx A K) := by unfold ctx; infer_instance

theorem ctx_inv (p : Dev nD × CI) : ctx A K ⊢ cellInv ER (Rd A) (K p) (kcell p) := by
  unfold ctx; iintro ⟨H, -, -⟩
  iapply (show bigSep Finset.univ (fun p : Dev nD × CI => cellInv ER (Rd A) (K p) (kcell p)) ⊢ cellInv ER (Rd A) (K p) (kcell p)
    from bigSep_elim (Finset.mem_univ p)) $$ H
theorem ctx_reached (p : Dev nD × CI) : ctx A K ⊢ reached ER (kcell p) 0 := by
  unfold ctx; iintro ⟨-, H, -⟩
  iapply (show bigSep Finset.univ (fun p : Dev nD × CI => (reached ER (kcell p) 0 : sProp 𝕄)) ⊢ reached ER (kcell p) 0
    from bigSep_elim (Finset.mem_univ p)) $$ H
theorem ctx_lev : ctx A K ⊢ levAts L lv := by
  unfold ctx; iintro ⟨-, -, H⟩; iexact H

/-- What a device still owes, whatever it has waited for. -/
def ow (c : Dev nD) (n : ℕ) : sProp 𝕄 := iprop(∃ W, owes (c : Thread nD τ) (owe c n) W)

/-! ## Stages in progress -/

/-- The first `n` of `m` places done, the others still to do. -/
def prog {m : ℕ} (P R : Fin m → sProp 𝕄) (n : ℕ) : sProp 𝕄 :=
  bigSep Finset.univ (fun j : Fin m => if j.val < n then R j else P j)

section Prog
variable {m : ℕ} (P R : Fin m → sProp (MT nD τ sig Unit (Elt F) ℕ UU ℕ))

theorem prog_zero : prog P R 0 = bigSep Finset.univ P := by
  unfold prog; exact bigSep_congr fun j _ => if_neg (Nat.not_lt_zero _)
theorem prog_full : prog P R m = bigSep Finset.univ R := by
  unfold prog; exact bigSep_congr fun j _ => if_pos j.isLt
/-- One place done. -/
theorem prog_step (j : Fin m) (n : ℕ) (hn : n = j.val) : prog P R n ⊢ iprop(P j ∗ (R j -∗ prog P R (n + 1))) := by
  subst hn
  unfold prog
  rw [bigSep_univ_split j, bigSep_univ_split (Φ := fun i : Fin m => if i.val < j.val + 1 then R i else P i) j]
  rw [if_neg (Nat.lt_irrefl _), if_pos (Nat.lt_succ_self _)]
  rw [bigSep_congr (s := Finset.univ.erase j) (Φ := fun i : Fin m => if i.val < j.val + 1 then R i else P i)
    (Ψ := fun i : Fin m => if i.val < j.val then R i else P i) (fun i hi => by
      have h : i.val ≠ j.val := fun e => (Finset.mem_erase.mp hi).1 (Fin.ext e)
      by_cases h' : i.val < j.val
      · rw [if_pos h', if_pos (by omega)]
      · rw [if_neg h', if_neg (by omega)])]
  show iprop(P j ∗ bigSep (Finset.univ.erase j) _) ⊢ iprop(P j ∗ (R j -∗ iprop(R j ∗ bigSep (Finset.univ.erase j) _)))
  iintro ⟨H, HR⟩
  isplitl [H]; · iexact H
  iintro HA
  isplitl [HA]; · iexact HA
  iexact HR
/-- A done place looked into. -/
theorem prog_look (j : Fin m) (n : ℕ) (hn : j.val < n) : prog P R n ⊢ iprop(R j ∗ (R j -∗ prog P R n)) := by
  unfold prog
  rw [bigSep_univ_split j, if_pos hn]
  show iprop(R j ∗ bigSep (Finset.univ.erase j) _) ⊢ iprop(R j ∗ (R j -∗ iprop(R j ∗ bigSep (Finset.univ.erase j) _)))
  iintro ⟨H, HR⟩
  isplitl [H]; · iexact H
  iintro HA
  isplitl [HA]; · iexact HA
  iexact HR
end Prog

/-! ## The steps of the protocol -/

/-- A stretch of the body on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable {α : Type} {Q : α → sProp (MT nD τ sig Unit (Elt F) ℕ UU ℕ)} (c : Dev nD)

/-- Signal `j`: the two slots of `c` the device `up c j` will write are handed to it. -/
theorem run_signal (j : Fin 7) (m : ℕ) (hm : m + j.val = 34) (n : Dev nD) (hn : n = up c j)
    {k : PUnit → Prog (TpuEff nD τ sig (Elt F) Λ₀ .tc) α} :
    iprop(ctx A K ∗ ow c (m + 1) ∗ dutyTok ER (barCell (up c j)) 0 j ∗ rAny c 0 j.val ∗ rAny c 1 j.val)
      ⊢ iprop((ow c m -∗ run c (k ⟨⟩) Q) -∗ run c (.op (.semSignal (n : Thread nD τ) barS 1) k) Q) := by
  subst hn
  iintro ⟨#Hc, Ho, Ht, Hr0, Hr1⟩ Hk
  unfold ow
  icases Ho with ⟨%W, Ho⟩
  iapply (Rounds.wp_signal 𝒱₀ ER (Rd A) (c : Thread nD τ) none (dst := (up c j : Thread nD τ)) (κ := K (up c j, none)) (r := 0) (d := j) (k' := 1)
      (by rw [duties_bar]; exact Finset.mem_univ _) rfl () (owe c m) (show owe c m + ob c m = owe c m + _ by
        unfold ob
        rw [dif_neg (by have := j.isLt; omega)]
        have e : (⟨(34 - m) % 7, Nat.mod_lt _ (by decide)⟩ : Fin 7) = j := Fin.ext (by show (34 - m) % 7 = j.val; have := j.isLt; omega)
        rw [e])) $$ [Ho Ht Hr0 Hr1]
  · isplitr; · iapply (ctx_inv A K (up c j, none)); iexact Hc
    isplitl [Ho]; · iexact Ho
    isplitl [Ht]; · iexact Ht
    isplitl
    · rw [payload_bar]; unfold barPay; rw [up_up_rev]
      isplitl [Hr0] <;> iassumption
    · iapply (ctx_reached A K (up c j, none)); iexact Hc
  iintro Ho
  iapply Hk
  iexists W; iexact Ho

/-- The wait for the seven signals: the slots the others hand over. -/
theorem run_wait_bar {k : PUnit → Prog (TpuEff nD τ sig (Elt F) Λ₀ .tc) α} :
    iprop(ctx A K ∗ cred (tallyAt (barCell c) () 7) ∗ ow c 28 ∗ atPos ER (barCell c) 0 ∅ 0)
      ⊢ iprop((ow c 28 ∗ semVal (barCell c) 0 ∗ bigSep Finset.univ (fun j : Fin 7 => barPay c j) -∗ run c (k ⟨⟩) Q)
        -∗ run c (.op (.semWait barS 7) k) Q) := by
  iintro ⟨#Hc, Hcr, Ho, Hat⟩ Hk
  unfold ow
  icases Ho with ⟨%W, Ho⟩
  iapply (Rounds.wp_wait_rest_token 𝒱₀ ER (Rd A) (c : Thread nD τ) none (κ := K (c, none))
      (wpE_semWait_eq 𝒱₀ (c : Thread nD τ) none Set.univ) (Set.mem_univ _) () (O := owe c 28) (W := W) (R := 0) (m := 0) (T := ∅)
      (by rw [expect_bar])) $$ [Hcr Ho Hat]
  · isplitr; · iapply (ctx_inv A K (c, none)); iexact Hc
    isplitl [Hcr]; · iexact Hcr
    isplitl [Ho]; · iexact Ho
    isplitr; · iapply (mayWait_bar c); iapply (ctx_lev A K); iexact Hc
    iexact Hat
  iintro ⟨Ho, Hat, -, Hpay⟩
  ihave Hp := (Entails.of_eq (rest_bar A c)) $$ Hpay
  imod (Rounds.cell_close ER (Rd A) (Set.mem_univ (K (c, none))) (fun h => h) (R := 0 + 1) (duties_later A (barCell c))) $$ [Hat] with Hz
  · isplitr; · iapply (ctx_inv A K (c, none)); iexact Hc
    iexact Hat
  iapply Hk
  isplitl [Ho]; · iexists _; iexact Ho
  isplitl [Hz]; · iexact Hz
  iexact Hp

/-- The wait for transfer `i`'s leaving. -/
theorem run_wait_send (i : Fin 28) (s : DmaSem sig) (hs : s = sendS i) (n : ℕ) {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {k : PUnit → Prog (TpuEff nD τ sig (Elt F) Λ₀ .tc) α} :
    iprop(ctx A K ∗ ow c n ∗ cred (tallyAt (sendCell c i) () N) ∗ atPos ER (sendCell c i) 0 ∅ 0)
      ⊢ iprop((ow c n ∗ semVal (sendCell c i) 0 ∗ sendPay A c i -∗ run c (k ⟨⟩) Q)
        -∗ run c (.op (.waitDma2 s src dst hsrc hdst) k) Q) := by
  subst hs
  iintro ⟨#Hc, Ho, Hcr, Hat⟩ Hk
  unfold ow
  icases Ho with ⟨%W, Ho⟩
  iapply (Rounds.wp_wait_rest_token 𝒱₀ ER (Rd A) (c : Thread nD τ) none (κ := K (c, some (false, i)))
      (wpE_waitDma2_eq 𝒱₀ (c : Thread nD τ) none Set.univ) (Set.mem_univ _) () (O := owe c n) (W := W) (R := 0) (m := 0) (T := ∅)
      (by rw [Nat.zero_add, expect_send, hN])) $$ [Hcr Ho Hat]
  · isplitr; · iapply (ctx_inv A K (c, some (false, i))); iexact Hc
    isplitl [Hcr]; · rw [hN]; iexact Hcr
    isplitl [Ho]; · iexact Ho
    isplitr
    · iapply (mayWait_low c (sendS i) (show 6 + i.val < 34 by have := i.isLt; omega) n); iapply (ctx_lev A K); iexact Hc
    iexact Hat
  iintro ⟨Ho, Hat, -, Hpay⟩
  ihave Hp := (Entails.of_eq (rest_send A c i)) $$ Hpay
  imod (Rounds.cell_close ER (Rd A) (Set.mem_univ (K (c, some (false, i)))) (fun h => h) (R := 0 + 1) (duties_later A (sendCell c i))) $$ [Hat] with Hz
  · isplitr; · iapply (ctx_inv A K (c, some (false, i))); iexact Hc
    iexact Hat
  iapply Hk
  isplitl [Ho]; · iexists _; iexact Ho
  isplitl [Hz]; · iexact Hz
  iexact Hp

/-- The wait for an arrival on receive semaphore `i`. -/
theorem run_wait_recv (i : Fin 28) (s : DmaSem sig) (hs : s = recvS i) (n : ℕ) (hn : n ≤ 21 - 7 * (i.val / 7))
    {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {k : PUnit → Prog (TpuEff nD τ sig (Elt F) Λ₀ .tc) α} :
    iprop(ctx A K ∗ ow c n ∗ cred (tallyAt (recvCell c i) () N) ∗ atPos ER (recvCell c i) 0 ∅ 0)
      ⊢ iprop((ow c n ∗ semVal (recvCell c i) 0 ∗ recvPay A c i -∗ run c (k ⟨⟩) Q)
        -∗ run c (.op (.waitDma2 s src dst hsrc hdst) k) Q) := by
  subst hs
  iintro ⟨#Hc, Ho, Hcr, Hat⟩ Hk
  unfold ow
  icases Ho with ⟨%W, Ho⟩
  iapply (Rounds.wp_wait_rest_token 𝒱₀ ER (Rd A) (c : Thread nD τ) none (κ := K (c, some (true, i)))
      (wpE_waitDma2_eq 𝒱₀ (c : Thread nD τ) none Set.univ) (Set.mem_univ _) () (O := owe c n) (W := W) (R := 0) (m := 0) (T := ∅)
      (by rw [Nat.zero_add, expect_recv, hN])) $$ [Hcr Ho Hat]
  · isplitr; · iapply (ctx_inv A K (c, some (true, i))); iexact Hc
    isplitl [Hcr]; · rw [hN]; iexact Hcr
    isplitl [Ho]; · iexact Ho
    isplitr
    · iapply (mayWait_recv c i n hn); iapply (ctx_lev A K); iexact Hc
    iexact Hat
  iintro ⟨Ho, Hat, -, Hpay⟩
  ihave Hp := (Entails.of_eq (rest_recv A c i)) $$ Hpay
  imod (Rounds.cell_close ER (Rd A) (Set.mem_univ (K (c, some (true, i)))) (fun h => h) (R := 0 + 1) (duties_later A (recvCell c i))) $$ [Hat] with Hz
  · isplitr; · iapply (ctx_inv A K (c, some (true, i))); iexact Hc
    iexact Hat
  iapply Hk
  isplitl [Ho]; · iexists _; iexact Ho
  isplitl [Hz]; · iexact Hz
  iexact Hp

/-! ## Pieces of the buffers -/

/-- A chunk at any contents. -/
def cAny (c : Dev nD) (hh k : ℕ) : sProp 𝕄 :=
  iprop(∃ f : Buf (Elt F) ((c : Thread nD τ).loc cc0_scratch0), ((c : Thread nD τ).loc cc0_scratch0) ↦[slab 8 hh k]{fullShare} f)

theorem cPt_any (hh k : ℕ) (w : Vec F S1x1x32x1024 .bf16) : cPt c hh k fullShare w ⊢ cAny c hh k := by
  unfold cPt cAny; iintro H; iexists _; iexact H
theorem rPt_any (hh k : ℕ) (w : Vec F S1x1x32x1024 .bf16) : rPt c hh k w ⊢ rAny c hh k := by
  unfold rPt rAny; iintro H; iexists _; iexact H

/-- Lending a piece, and taking it back. -/
theorem cPt_lend (hh k n : ℕ) (w : Vec F S1x1x32x1024 .bf16) :
    cPt c hh k (keep n) w ⊣⊢ iprop(cPt c hh k (keep (n + 1)) w ∗ cPt c hh k (lent n) w) :=
  pointsTo_share (by show keep n ∈ PCS.op (keep n).left (keep n).right; rw [PosShare.left_op_right]; exact Part.mem_some _)

/-- A load through any rectangle, at what it reads. -/
theorem load_at {cs : CoreSpace} {s : Shape} {e : EltTy} {m : Memref sig .tc cs s e} {r : LoadRect s} {hl : m.view.LoadsAt r}
    {kk : (r.shape.Idx → Elt F e) → Prog (TpuEff nD τ sig (Elt F) Λ₀ .tc) α} {S : Finset (Idx (m.view.loc (c : Thread nD τ)))} {q : PosShare TreeShare}
    {f : Buf (Elt F) (m.view.loc (c : Thread nD τ))} (x : r.shape.Idx → Elt F e) (hS : m.view.setOn r.set ⊆ S) (hr : m.view.readAt (Elt F) r f = x) :
    (m.view.loc (c : Thread nD τ) ↦[S]{q} f : sProp 𝕄) ⊢ iprop(((m.view.loc (c : Thread nD τ) ↦[S]{q} f) -∗ run c (kk x) Q)
      -∗ run c (.op (.load m r hl) kk) Q) := by
  subst hr
  exact wp_load 𝒱₀ (c : Thread nD τ) none Set.univ hS

/-- A store through any rectangle, at contents agreeing with it on the elements held. -/
theorem store_at {cs : CoreSpace} {s : Shape} {e : EltTy} {m : Memref sig .tc cs s e} {r : Rect s} {w : r.shape.Idx → Elt F e} {Mk : Finset r.shape.Idx}
    {hx : (m.access r).Stores Mk} {hm : Mk = Finset.univ ∨ ∀ a, r.stride a = 1} {kk : PUnit → Prog (TpuEff nD τ sig (Elt F) Λ₀ .tc) α}
    {S : Finset (Idx ((m.access r).loc (c : Thread nD τ)))} {f : Buf (Elt F) ((m.access r).loc (c : Thread nD τ))}
    (g : Buf (Elt F) ((m.access r).loc (c : Thread nD τ))) (hS : (m.access r).setOn Mk ⊆ S) (hg : ∀ i ∈ S, (m.access r).write (Elt F) f w Mk i = g i) :
    ((m.access r).loc (c : Thread nD τ) ↦[S]{fullShare} f : sProp 𝕄) ⊢ iprop((((m.access r).loc (c : Thread nD τ) ↦[S]{fullShare} g) -∗ run c (kk ⟨⟩) Q)
      -∗ run c (.op (.store m r w Mk hx hm) kk) Q) := by
  rw [← pointsTo_congr hg]
  exact wp_store 𝒱₀ (c : Thread nD τ) none Set.univ hS

theorem hnum : S32x1024.numel = S1x1x32x1024.numel := squeezes_S1x1x32x1024_S32x1024.numel_eq

section Slabs
variable {hh k : ℕ} {off : Fin 4 → ℕ} (hoff : off = ![hh, k, 0, 0]) (inb : ∀ a, off a + S1x1x32x1024.size a ≤ (slots 8).size a)
  (inb7 : ∀ a, off a + S1x1x32x1024.size a ≤ (slots 7).size a)
include hoff

theorem c_written (f : Buf (Elt F) ((c : Thread nD τ).loc cc0_scratch0)) (w : Vec F S1x1x32x1024 .bf16) (i : (slots 8).Idx) (hi : i ∈ slab 8 hh k) :
    (cM.access (Rect.unit (s := S2x8x32x1024) off S1x1x32x1024.size inb)).write (Elt F) f w Finset.univ i = fill 8 w i := by
  have h := write_slab cM.view f w hoff inb hi
  rw [show ∀ g, cM.view.read (Elt F) g = g from fun _ => rfl] at h
  exact h
theorem r_landed (f : Buf (Elt F) ((c : Thread nD τ).loc cc0_scratch1)) (w : Vec F S1x1x32x1024 .bf16) (i : (slots 7).Idx) (hi : i ∈ slab 7 hh k) :
    ((rM.slice (Rect.unit (s := S2x7x32x1024) off S1x1x32x1024.size inb7) (fun _ => rfl)).squeeze S32x1024 squeezes_S1x1x32x1024_S32x1024).view.write (Elt F) f
      (fun y => w (Shape.reshapeEquiv hnum y)) Finset.univ i = fill 7 w i := by
  have h := write_slab_reshape rM.view f w hoff inb7 hnum hi
  rw [show ∀ g, rM.view.read (Elt F) g = g from fun _ => rfl] at h
  exact h
theorem c_landed (f : Buf (Elt F) ((c : Thread nD τ).loc cc0_scratch0)) (w : Vec F S1x1x32x1024 .bf16) (i : (slots 8).Idx) (hi : i ∈ slab 8 hh k) :
    ((cM.slice (Rect.unit (s := S2x8x32x1024) off S1x1x32x1024.size inb) (fun _ => rfl)).squeeze S32x1024 squeezes_S1x1x32x1024_S32x1024).view.write (Elt F) f
      (fun y => w (Shape.reshapeEquiv hnum y)) Finset.univ i = fill 8 w i := by
  have h := write_slab_reshape cM.view f w hoff inb hnum hi
  rw [show ∀ g, cM.view.read (Elt F) g = g from fun _ => rfl] at h
  exact h
include inb in
theorem c_sent (w : Vec F S1x1x32x1024 .bf16) :
    ((cM.slice (Rect.unit (s := S2x8x32x1024) off S1x1x32x1024.size inb) (fun _ => rfl)).squeeze S32x1024 squeezes_S1x1x32x1024_S32x1024).view.read (Elt F)
      (fill 8 w) = fun y => w (Shape.reshapeEquiv hnum y) :=
  read_slab_reshape cM.view (fill 8 w) w hoff inb hnum (fun _ _ => rfl)

theorem c_set : (cM.slice (Rect.unit (s := S2x8x32x1024) off S1x1x32x1024.size inb) (fun _ => rfl)).view.set = slab 8 hh k :=
  (View.set_slice_whole _ _).trans (unit_set hoff inb)
theorem r_set : (rM.slice (Rect.unit (s := S2x7x32x1024) off S1x1x32x1024.size inb7) (fun _ => rfl)).view.set = slab 7 hh k :=
  (View.set_slice_whole _ _).trans (unit_set hoff inb7)

/-- A load of a chunk held at any share. -/
theorem run_load_c {q : PosShare TreeShare} {w : Vec F S1x1x32x1024 .bf16}
    {hl : cM.view.LoadsAt (Rect.unit (s := S2x8x32x1024) off S1x1x32x1024.size inb).toLoadRect}
    {kk : Vec F S1x1x32x1024 .bf16 → Prog (TpuEff nD τ sig (Elt F) Λ₀ .tc) α} :
    cPt c hh k q w ⊢ iprop((cPt c hh k q w -∗ run c (kk w) Q)
      -∗ run c (.op (.load cM (Rect.unit (s := S2x8x32x1024) off S1x1x32x1024.size inb).toLoadRect hl) kk) Q) :=
  load_at c w (m := cM) (r := (Rect.unit (s := S2x8x32x1024) off S1x1x32x1024.size inb).toLoadRect) (S := slab 8 hh k) (f := (fill 8 w : Buf (Elt F) ((c : Thread nD τ).loc cc0_scratch0)))
    (by rw [← c_set hoff inb]; exact subset_of_eq (View.set_slice _ _).symm)
    (read_slab cM.view (fill 8 w) w hoff inb (fun i _ => rfl))

/-- A load of a chunk at any contents. -/
theorem run_load_cAny {hl : cM.view.LoadsAt (Rect.unit (s := S2x8x32x1024) off S1x1x32x1024.size inb).toLoadRect}
    {kk : Vec F S1x1x32x1024 .bf16 → Prog (TpuEff nD τ sig (Elt F) Λ₀ .tc) α} :
    cAny c hh k ⊢ iprop((cAny c hh k -∗ ∀ x, run c (kk x) Q)
      -∗ run c (.op (.load cM (Rect.unit (s := S2x8x32x1024) off S1x1x32x1024.size inb).toLoadRect hl) kk) Q) := by
  unfold cAny
  iintro ⟨%f, H⟩ Hk
  iapply (load_at c _ (m := cM) (S := slab 8 hh k) (f := f) (by rw [← c_set hoff inb]; exact subset_of_eq (View.set_slice _ _).symm) rfl) $$ H
  iintro H
  ispecialize Hk $$ [H]
  · iexists f; iexact H
  iapply Hk

/-- A store of a chunk. -/
theorem run_store_c {w : Vec F S1x1x32x1024 .bf16} {hx : (cM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    cAny c hh k ⊢ iprop((cPt c hh k fullShare w -∗ run c (kk ⟨⟩) Q)
      -∗ run c (.op (.store cM (Rect.unit (s := S2x8x32x1024) off S1x1x32x1024.size inb) w Finset.univ hx hm) kk) Q) := by
  unfold cAny
  iintro ⟨%f, H⟩ Hk
  unfold cPt
  iapply (store_at c (m := cM) (r := Rect.unit (s := S2x8x32x1024) off S1x1x32x1024.size inb) (Mk := Finset.univ) (S := slab 8 hh k) (f := f)
    (fill 8 w : Buf (Elt F) ((c : Thread nD τ).loc cc0_scratch0)) (by rw [← c_set hoff inb]; exact subset_rfl) (c_written c hoff inb f w)) $$ H
  iexact Hk

/-- A load of a slot. -/
theorem run_load_r {w : Vec F S1x1x32x1024 .bf16}
    {hl : rM.view.LoadsAt (Rect.unit (s := S2x7x32x1024) off S1x1x32x1024.size inb7).toLoadRect}
    {kk : Vec F S1x1x32x1024 .bf16 → Prog (TpuEff nD τ sig (Elt F) Λ₀ .tc) α} :
    rPt c hh k w ⊢ iprop((rPt c hh k w -∗ run c (kk w) Q)
      -∗ run c (.op (.load rM (Rect.unit (s := S2x7x32x1024) off S1x1x32x1024.size inb7).toLoadRect hl) kk) Q) :=
  load_at c w (m := rM) (r := (Rect.unit (s := S2x7x32x1024) off S1x1x32x1024.size inb7).toLoadRect) (S := slab 7 hh k) (f := (fill 7 w : Buf (Elt F) ((c : Thread nD τ).loc cc0_scratch1)))
    (by rw [← r_set hoff inb7]; exact subset_of_eq (View.set_slice _ _).symm)
    (read_slab rM.view (fill 7 w) w hoff inb7 (fun i _ => rfl))

end Slabs

/-! ## The transfers -/

theorem pos_rx (i : Fin 28) : pos (rx i) = (pos i).rev := Fin.ext (by
  show (7 * (i.val / 7) + (6 - i.val % 7)) % 7 = _
  rw [Fin.val_rev]; show _ = 7 - (i.val % 7 + 1); omega)
theorem hf_rx (i : Fin 28) : hf (rx i) = hf i := Fin.ext (by
  show (7 * (i.val / 7) + (6 - i.val % 7)) / 14 = i.val / 14
  omega)
theorem gather_rx (i : Fin 28) : Gather (rx i) ↔ Gather i := by
  show (7 * (i.val / 7) + (6 - i.val % 7)) / 7 % 2 = 1 ↔ i.val / 7 % 2 = 1
  omega
theorem ob_transfer (i : Fin 28) (m : ℕ) (hm : m + i.val = 27) : ob c m = tallyAt (recvCell (dst c i) (rx i)) () N := by
  unfold ob
  rw [dif_pos (by omega)]
  have e : (⟨27 - m, by omega⟩ : Fin 28) = i := Fin.ext (by show 27 - m = i.val; omega)
  rw [e]

/-- A scatter transfer: the chunk for `dst c k` into the slot there, the right to write one's own copy of it going along. -/
theorem run_scatter (i : Fin 28) (hi : ¬ Gather i) (m : ℕ) (hm : m + i.val = 27) (n : Dev nD) (hn : n = dst c i)
    {off off' : Fin 4 → ℕ} (hoff : off = ![(hf i).val, (dst c i).val, 0, 0]) (inb : ∀ a, off a + S1x1x32x1024.size a ≤ (slots 8).size a)
    (hoff' : off' = ![(hf i).val, (pos i).rev.val, 0, 0]) (inb' : ∀ a, off' a + S1x1x32x1024.size a ≤ (slots 7).size a)
    (s₁ s₂ : DmaSem sig) (hs₁ : s₁ = sendS i) (hs₂ : s₂ = recvS (rx i)) {hsc} {hsrc} {hdst} {hsem}
    {k : PUnit → Prog (TpuEff nD τ sig (Elt F) Λ₀ .tc) α} :
    iprop(ctx A K ∗ ow c (m + 1) ∗ cPt c (hf i).val (dst c i).val fullShare (A.part (hf i) c (dst c i)) ∗ rAny (dst c i) (hf i).val (pos i).rev.val
        ∗ dutyTok ER (sendCell c i) 0 (0 : Fin 7) ∗ dutyTok ER (recvCell (dst c i) (rx i)) 0 (0 : Fin 7))
      ⊢ iprop((ow c m ∗ cred (tallyAt (sendCell c i) () N) -∗ run c (k ⟨⟩) Q)
        -∗ run c (.op (.enqueueDma ((cM.slice (Rect.unit (s := S2x8x32x1024) off S1x1x32x1024.size inb) (fun _ => rfl)).squeeze S32x1024 squeezes_S1x1x32x1024_S32x1024)
          (.remote (Dev.tc n : Thread nD τ) ((rM.slice (Rect.unit (s := S2x7x32x1024) off' S1x1x32x1024.size inb') (fun _ => rfl)).squeeze S32x1024 squeezes_S1x1x32x1024_S32x1024)
            (.dma s₁) hsc) (.dma s₂) hsrc hdst hsem) k) Q) := by
  subst hn hs₁ hs₂
  iintro ⟨#Hc, Ho, Hs, Hd, Ht₁, Ht₂⟩ Hk
  unfold ow rAny
  icases Ho with ⟨%W, Ho⟩
  icases Hd with ⟨%fd, Hd⟩
  have es : ((cM.slice (Rect.unit (s := S2x8x32x1024) off S1x1x32x1024.size inb) (fun _ => rfl)).squeeze S32x1024 squeezes_S1x1x32x1024_S32x1024).view.set
      = slab 8 (hf i).val (dst c i).val := (View.set_reshape _ _).trans (c_set hoff inb)
  have ed : ((rM.slice (Rect.unit (s := S2x7x32x1024) off' S1x1x32x1024.size inb') (fun _ => rfl)).squeeze S32x1024 squeezes_S1x1x32x1024_S32x1024).view.set
      = slab 7 (hf i).val (pos i).rev.val := (View.set_reshape _ _).trans (r_set hoff' inb')
  iapply (Rounds.wp_send_landing_pointsTo 𝒱₀ ER (Rd A) (c : Thread nD τ) none (κ₁ := K (c, some (false, i))) (κ₂ := K (dst c i, some (true, rx i)))
    (r₁ := 0) (r₂ := 0) (d₁ := (0 : Fin 7)) (d₂ := (0 : Fin 7)) (fd := fd) (q := fullShare)
    (fs := (fill 8 (A.part (hf i) c (dst c i)) : Buf (Elt F) ((c : Thread nD τ).loc cc0_scratch0)))
    (by rw [duties_send]; exact Finset.mem_singleton_self _) (by rw [duties_recv]; exact Finset.mem_singleton_self _)
    () () N rfl rfl rfl (owe c m) (congrArg (fun t => owe c m + t) (ob_transfer c i m hm)) (W := W)
    (by rw [payload_send]; unfold sendPay; rw [if_neg hi])
    (by
      rw [payload_recv]; unfold recvPay
      rw [if_neg (fun h => hi ((gather_rx i).mp h)), pos_rx, hf_rx, up_up_rev, es, ed, c_sent hoff inb]
      refine BIClass.sep_mono (Entails.of_eq (pointsTo_congr fun y hy => ?_)) (Entails.refl _)
      exact r_landed _ hoff' inb' fd (A.part (hf i) c (dst c i)) y hy)) $$ [Ho Hs Hd Ht₁ Ht₂]
  · isplitr; · iapply (ctx_inv A K (c, some (false, i))); iexact Hc
    isplitr; · iapply (ctx_inv A K (dst c i, some (true, rx i))); iexact Hc
    isplitl [Hs]; · rw [es]; unfold cPt; iexact Hs
    isplitl [Hd]; · rw [ed]; iexact Hd
    isplitl [Ho]; · iexact Ho
    isplitl [Ht₁]; · iexact Ht₁
    isplitr; · iapply (ctx_reached A K (c, some (false, i))); iexact Hc
    isplitl [Ht₂]; · iexact Ht₂
    iapply (ctx_reached A K (dst c i, some (true, rx i))); iexact Hc
  iintro ⟨Hcr, Ho⟩
  iapply Hk
  isplitl [Ho]; · iexists W; iexact Ho
  iexact Hcr

/-- A gather transfer: the summed chunk into the same chunk of `dst c i`, one piece of it lent. -/
theorem run_gather (i : Fin 28) (hi : Gather i) (m : ℕ) (hm : m + i.val = 27) (n : Dev nD) (hn : n = dst c i)
    {off : Fin 4 → ℕ} (hoff : off = ![(hf i).val, c.val, 0, 0]) (inb : ∀ a, off a + S1x1x32x1024.size a ≤ (slots 8).size a)
    (s₁ s₂ : DmaSem sig) (hs₁ : s₁ = sendS i) (hs₂ : s₂ = recvS (rx i)) {hsc} {hsrc} {hdst} {hsem}
    {k : PUnit → Prog (TpuEff nD τ sig (Elt F) Λ₀ .tc) α} :
    iprop(ctx A K ∗ ow c (m + 1) ∗ cPt c (hf i).val c.val (keep (pos i).val) (A.red (hf i) c) ∗ cAny (dst c i) (hf i).val c.val
        ∗ dutyTok ER (sendCell c i) 0 (0 : Fin 7) ∗ dutyTok ER (recvCell (dst c i) (rx i)) 0 (0 : Fin 7))
      ⊢ iprop((ow c m ∗ cred (tallyAt (sendCell c i) () N) ∗ cPt c (hf i).val c.val (keep ((pos i).val + 1)) (A.red (hf i) c) -∗ run c (k ⟨⟩) Q)
        -∗ run c (.op (.enqueueDma ((cM.slice (Rect.unit (s := S2x8x32x1024) off S1x1x32x1024.size inb) (fun _ => rfl)).squeeze S32x1024 squeezes_S1x1x32x1024_S32x1024)
          (.remote (Dev.tc n : Thread nD τ) ((cM.slice (Rect.unit (s := S2x8x32x1024) off S1x1x32x1024.size inb) (fun _ => rfl)).squeeze S32x1024 squeezes_S1x1x32x1024_S32x1024)
            (.dma s₁) hsc) (.dma s₂) hsrc hdst hsem) k) Q) := by
  subst hn hs₁ hs₂
  iintro ⟨#Hc, Ho, Hs, Hd, Ht₁, Ht₂⟩ Hk
  unfold ow cAny
  icases Ho with ⟨%W, Ho⟩
  icases Hd with ⟨%fd, Hd⟩
  ihave Hs' := (cPt_lend c (hf i).val c.val (pos i).val (A.red (hf i) c)).1 $$ Hs
  icases Hs' with ⟨Hkeep, Hs⟩
  have es : ((cM.slice (Rect.unit (s := S2x8x32x1024) off S1x1x32x1024.size inb) (fun _ => rfl)).squeeze S32x1024 squeezes_S1x1x32x1024_S32x1024).view.set
      = slab 8 (hf i).val c.val := (View.set_reshape _ _).trans (c_set hoff inb)
  iapply (Rounds.wp_send_pointsTo 𝒱₀ ER (Rd A) (c : Thread nD τ) none (κ₁ := K (c, some (false, i))) (κ₂ := K (dst c i, some (true, rx i)))
    (r₁ := 0) (r₂ := 0) (d₁ := (0 : Fin 7)) (d₂ := (0 : Fin 7)) (fd := fd) (q := lent (pos i).val)
    (fs := (fill 8 (A.red (hf i) c) : Buf (Elt F) ((c : Thread nD τ).loc cc0_scratch0)))
    (by rw [duties_send]; exact Finset.mem_singleton_self _) (by rw [duties_recv]; exact Finset.mem_singleton_self _)
    () () N rfl rfl rfl (owe c m) (congrArg (fun t => owe c m + t) (ob_transfer c i m hm)) (W := W)
    (by rw [payload_send]; unfold sendPay; rw [if_pos hi, es]; exact Entails.refl _)
    (by
      rw [payload_recv]; unfold recvPay
      rw [if_pos ((gather_rx i).mpr hi), pos_rx, hf_rx, up_up_rev, es, c_sent hoff inb]
      exact Entails.of_eq (pointsTo_congr fun y hy => c_landed (dst c i) hoff inb fd (A.red (hf i) c) y hy))) $$ [Ho Hs Hd Ht₁ Ht₂]
  · isplitr; · iapply (ctx_inv A K (c, some (false, i))); iexact Hc
    isplitr; · iapply (ctx_inv A K (dst c i, some (true, rx i))); iexact Hc
    isplitl [Hs]; · rw [es]; unfold cPt; iexact Hs
    isplitl [Hd]; · rw [es]; iexact Hd
    isplitl [Ho]; · iexact Ho
    isplitl [Ht₁]; · iexact Ht₁
    isplitr; · iapply (ctx_reached A K (c, some (false, i))); iexact Hc
    isplitl [Ht₂]; · iexact Ht₂
    iapply (ctx_reached A K (dst c i, some (true, rx i))); iexact Hc
  iintro ⟨Hcr, Ho⟩
  iapply Hk
  isplitl [Ho]; · iexists W; iexact Ho
  isplitl [Hcr]; · iexact Hcr
  iexact Hkeep

end Steps
end Cert.Attn
end
-- ==== Proof.Own.lean ====
/-
The loads and stores of a device's own buffers: its blocks, its attention rows as the heads fill them, and its copy of
the result as the chunks fill it.
-/
module

public import proofs.«01_k».proof.Proof.Rules

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Inp F)
variable {α : Type} {Q : α → sProp (MT nD τ sig Unit (Elt F) ℕ UU ℕ)} (c : Dev nD)

/-- A device's block in its buffer. -/
def hold (c : Dev nD) (b : Ref sig .tc) (X : b.ty.Contents (Elt F)) : sProp 𝕄 :=
  ((c : Thread nD τ).loc b) ↦{fullShare} (X : Buf (Elt F) ((c : Thread nD τ).loc b))

theorem zero2 : (![0, 0] : Fin 2 → ℕ) = fun _ => 0 := by funext a; fin_cases a <;> rfl

/-! ## The blocks -/

theorem run_load_x {X : Vec F S512x1024 .f32} (inb : ∀ a, (![0, 0] : Fin 2 → ℕ) a + S512x1024.size a ≤ S512x1024.size a)
    {hl : xM.view.LoadsAt (Rect.unit (s := S512x1024) ![0, 0] S512x1024.size inb).toLoadRect}
    {kk : Vec F S512x1024 .f32 → Prog (TpuEff nD τ sig (Elt F) Λ₀ .tc) α} :
    hold c cc0_stg0_0 X ⊢ iprop((hold c cc0_stg0_0 X -∗ run c (kk X) Q)
      -∗ run c (.op (.load xM (Rect.unit (s := S512x1024) ![0, 0] S512x1024.size inb).toLoadRect hl) kk) Q) :=
  load_at c X (m := xM) (r := (Rect.unit (s := S512x1024) ![0, 0] S512x1024.size inb).toLoadRect) (S := Finset.univ)
    (f := (X : Buf (Elt F) ((c : Thread nD τ).loc cc0_stg0_0))) (Finset.subset_univ _) (Memref.readAt_unit_zero (Elt F) cc0_stg0_0 zero2 inb X)

theorem run_load_wq {X : Vec F S1024x1024 .f32} (inb : ∀ a, (![0, 0] : Fin 2 → ℕ) a + S1024x1024.size a ≤ S1024x1024.size a)
    {hl : wqM.view.LoadsAt (Rect.unit (s := S1024x1024) ![0, 0] S1024x1024.size inb).toLoadRect}
    {kk : Vec F S1024x1024 .f32 → Prog (TpuEff nD τ sig (Elt F) Λ₀ .tc) α} :
    hold c cc0_stg1_0 X ⊢ iprop((hold c cc0_stg1_0 X -∗ run c (kk X) Q)
      -∗ run c (.op (.load wqM (Rect.unit (s := S1024x1024) ![0, 0] S1024x1024.size inb).toLoadRect hl) kk) Q) :=
  load_at c X (m := wqM) (r := (Rect.unit (s := S1024x1024) ![0, 0] S1024x1024.size inb).toLoadRect) (S := Finset.univ)
    (f := (X : Buf (Elt F) ((c : Thread nD τ).loc cc0_stg1_0))) (Finset.subset_univ _) (Memref.readAt_unit_zero (Elt F) cc0_stg1_0 zero2 inb X)

theorem run_load_wo {X : Vec F S1024x1024 .f32} (inb : ∀ a, (![0, 0] : Fin 2 → ℕ) a + S1024x1024.size a ≤ S1024x1024.size a)
    {hl : woM.view.LoadsAt (Rect.unit (s := S1024x1024) ![0, 0] S1024x1024.size inb).toLoadRect}
    {kk : Vec F S1024x1024 .f32 → Prog (TpuEff nD τ sig (Elt F) Λ₀ .tc) α} :
    hold c cc0_stg2_0 X ⊢ iprop((hold c cc0_stg2_0 X -∗ run c (kk X) Q)
      -∗ run c (.op (.load woM (Rect.unit (s := S1024x1024) ![0, 0] S1024x1024.size inb).toLoadRect hl) kk) Q) :=
  load_at c X (m := woM) (r := (Rect.unit (s := S1024x1024) ![0, 0] S1024x1024.size inb).toLoadRect) (S := Finset.univ)
    (f := (X : Buf (Elt F) ((c : Thread nD τ).loc cc0_stg2_0))) (Finset.subset_univ _) (Memref.readAt_unit_zero (Elt F) cc0_stg2_0 zero2 inb X)

section Cols
variable (h : Fin 8) {off : Fin 2 → ℕ} (hoff : off = ![0, 128 * h.val])
include hoff

theorem col_idx (inb : ∀ a, off a + S2048x128.size a ≤ S2048x1024.size a) (X : Vec F S2048x1024 .f32) :
    (fun j => X ((Rect.unit (s := S2048x1024) off S2048x128.size inb).emb j)) = col X h := by
  subst hoff
  funext j
  unfold col
  congr 1
  funext a
  apply Fin.ext
  rw [Rect.emb_apply]
  show ![0, 128 * h.val] a + 1 * (j a).val = _
  rw [Nat.one_mul]
  fin_cases a
  · exact Nat.zero_add _
  · rfl

theorem run_load_k {X : Vec F S2048x1024 .f32} (inb : ∀ a, off a + S2048x128.size a ≤ S2048x1024.size a)
    {hl : kM.view.LoadsAt (Rect.unit (s := S2048x1024) off S2048x128.size inb).toLoadRect}
    {kk : Vec F S2048x128 .f32 → Prog (TpuEff nD τ sig (Elt F) Λ₀ .tc) α} :
    hold c cc0_stg3_0 X ⊢ iprop((hold c cc0_stg3_0 X -∗ run c (kk (col X h)) Q)
      -∗ run c (.op (.load kM (Rect.unit (s := S2048x1024) off S2048x128.size inb).toLoadRect hl) kk) Q) :=
  load_at c (col X h) (m := kM) (r := (Rect.unit (s := S2048x1024) off S2048x128.size inb).toLoadRect) (S := Finset.univ)
    (f := (X : Buf (Elt F) ((c : Thread nD τ).loc cc0_stg3_0))) (Finset.subset_univ _) (col_idx h hoff inb X)

theorem run_load_v {X : Vec F S2048x1024 .f32} (inb : ∀ a, off a + S2048x128.size a ≤ S2048x1024.size a)
    {hl : vM.view.LoadsAt (Rect.unit (s := S2048x1024) off S2048x128.size inb).toLoadRect}
    {kk : Vec F S2048x128 .f32 → Prog (TpuEff nD τ sig (Elt F) Λ₀ .tc) α} :
    hold c cc0_stg4_0 X ⊢ iprop((hold c cc0_stg4_0 X -∗ run c (kk (col X h)) Q)
      -∗ run c (.op (.load vM (Rect.unit (s := S2048x1024) off S2048x128.size inb).toLoadRect hl) kk) Q) :=
  load_at c (col X h) (m := vM) (r := (Rect.unit (s := S2048x1024) off S2048x128.size inb).toLoadRect) (S := Finset.univ)
    (f := (X : Buf (Elt F) ((c : Thread nD τ).loc cc0_stg4_0))) (Finset.subset_univ _) (col_idx h hoff inb X)
end Cols

/-! ## The attention rows -/

/-- The first `n` heads' columns of a half's rows are in place. -/
def oPt (hh : Fin 2) (n : ℕ) : sProp 𝕄 :=
  iprop(∃ f : Vec F S256x1024 .f32, ⌜∀ i, (i 1).val < 128 * n → f i = A.o hh c i⌝ ∗ hold c cc0_scratch2 f)

theorem oPt_start (hh hh' : Fin 2) (n : ℕ) : oPt A c hh n ⊢ oPt A c hh' 0 := by
  unfold oPt
  iintro ⟨%f, -, H⟩
  iexists f
  isplitr; · ipureintro; exact fun i hi => absurd hi (Nat.not_lt_zero _)
  iexact H

/-- A load of it whose value is not used. -/
theorem run_load_o (hh : Fin 2) (n : ℕ) {r : LoadRect S256x1024} {hl : tM.view.LoadsAt r}
    {kk : (r.shape.Idx → Elt F .f32) → Prog (TpuEff nD τ sig (Elt F) Λ₀ .tc) α} :
    oPt A c hh n ⊢ iprop((oPt A c hh n -∗ ∀ x, run c (kk x) Q) -∗ run c (.op (.load tM r hl) kk) Q) := by
  unfold oPt hold
  iintro ⟨%f, %hf, H⟩ Hk
  iapply (load_at c (tM.view.readAt (Elt F) r f) (m := tM) (r := r) (S := Finset.univ) (f := f) (Finset.subset_univ _) rfl) $$ H
  iintro H
  ispecialize Hk $$ [H]
  · iexists f
    isplitr; · ipureintro; exact hf
    iexact H
  iapply Hk

/-- The whole of it, once the eight heads are in place. -/
theorem run_load_o8 (hh : Fin 2) (inb : ∀ a, (![0, 0] : Fin 2 → ℕ) a + S256x1024.size a ≤ S256x1024.size a)
    {hl : tM.view.LoadsAt (Rect.unit (s := S256x1024) ![0, 0] S256x1024.size inb).toLoadRect}
    {kk : Vec F S256x1024 .f32 → Prog (TpuEff nD τ sig (Elt F) Λ₀ .tc) α} :
    oPt A c hh 8 ⊢ iprop((oPt A c hh 8 -∗ run c (kk (A.o hh c)) Q)
      -∗ run c (.op (.load tM (Rect.unit (s := S256x1024) ![0, 0] S256x1024.size inb).toLoadRect hl) kk) Q) := by
  unfold oPt hold
  iintro ⟨%f, %hf, H⟩ Hk
  have e : f = A.o hh c := funext fun i => hf i (i 1).isLt
  subst e
  iapply (load_at c (A.o hh c) (m := tM) (r := (Rect.unit (s := S256x1024) ![0, 0] S256x1024.size inb).toLoadRect) (S := Finset.univ)
    (f := (A.o hh c : Buf (Elt F) ((c : Thread nD τ).loc cc0_scratch2))) (Finset.subset_univ _) (Memref.readAt_unit_zero (Elt F) cc0_scratch2 zero2 inb (A.o hh c))) $$ H
  iintro H
  iapply Hk
  iexists _
  isplitr; · ipureintro; exact hf
  iexact H

theorem head_written (hh : Fin 2) (h : Fin 8) (inb : ∀ a, (![0, 128 * h.val] : Fin 2 → ℕ) a + S256x128.size a ≤ S256x1024.size a)
    (f : Vec F S256x1024 .f32) (hf : ∀ i, (i 1).val < 128 * h.val → f i = A.o hh c i) (i : S256x1024.Idx) (hi : (i 1).val < 128 * (h.val + 1)) :
    (tM.access (Rect.unit (s := S256x1024) ![0, 128 * h.val] S256x128.size inb)).write (Elt F) f
      (headV (half (A.q c) hh) h (col (A.k c) h) (col (A.v c) h)) Finset.univ i = A.o hh c i := by
  have i0 : (i 0).val < 256 := (i 0).isLt
  have i1 : (i 1).val < 1024 := (i 1).isLt
  by_cases hb : (i 1).val < 128 * h.val
  · refine Eq.trans ?_ (hf i hb)
    refine View.read_slice_write_of_not_mem (v := tM.view) (Rect.unit (s := S256x1024) ![0, 128 * h.val] S256x128.size inb) f
      (headV (half (A.q c) hh) h (col (A.k c) h) (col (A.v c) h)) Finset.univ (y := i) fun hm => ?_
    have hm' : i ∈ (Rect.unit (s := S256x1024) ![0, 128 * h.val] S256x128.size inb).set := by
      obtain ⟨j, -, rfl⟩ := Finset.mem_map.mp hm
      exact LoadRect.idx_mem _ j
    rw [Rect.mem_set_unit] at hm'
    have h1 := (hm' 1).1
    change 128 * h.val ≤ (i 1).val at h1
    omega
  · let j : S256x128.Idx := ix2 ⟨(i 0).val, i0⟩ ⟨(i 1).val - 128 * h.val, by omega⟩
    have e : (Rect.unit (s := S256x1024) ![0, 128 * h.val] S256x128.size inb).emb j = i := by
      funext a
      apply Fin.ext
      rw [Rect.emb_apply]
      show ![0, 128 * h.val] a + 1 * (j a).val = _
      rw [Nat.one_mul]
      fin_cases a
      · exact Nat.zero_add _
      · show 128 * h.val + ((i 1).val - 128 * h.val) = (i 1).val; omega
    have hw := View.read_slice_write_emb (v := tM.view) (Rect.unit (s := S256x1024) ![0, 128 * h.val] S256x128.size inb) f
      (headV (half (A.q c) hh) h (col (A.k c) h) (col (A.v c) h)) (M := Finset.univ) (x := j) (Finset.mem_univ _)
    rw [e] at hw
    refine Eq.trans hw ?_
    have eh : (⟨(i 1).val / 128, by omega⟩ : Fin 8) = h := Fin.ext (by show (i 1).val / 128 = h.val; omega)
    show _ = headV (half (A.q c) hh) (⟨(i 1).val / 128, by omega⟩ : Fin 8) (col (A.k c) (⟨(i 1).val / 128, by omega⟩ : Fin 8))
      (col (A.v c) (⟨(i 1).val / 128, by omega⟩ : Fin 8)) (ix2 ⟨(i 0).val, (i 0).isLt⟩ ⟨(i 1).val % 128, Nat.mod_lt _ (by decide)⟩)
    rw [eh]
    congr 1
    show ix2 _ _ = ix2 _ _
    congr 1
    exact Fin.ext (by show (i 1).val - 128 * h.val = (i 1).val % 128; omega)

/-- Head `h`'s columns stored. -/
theorem run_store_o (hh : Fin 2) (h : Fin 8) {off : Fin 2 → ℕ} (hoff : off = ![0, 128 * h.val])
    (inb : ∀ a, off a + S256x128.size a ≤ S256x1024.size a) (w : Vec F S256x128 .f32)
    (hw : w = headV (half (A.q c) hh) h (col (A.k c) h) (col (A.v c) h))
    {hx : (tM.access (Rect.unit (s := S256x1024) off S256x128.size inb)).Stores Finset.univ}
    {hm : (Finset.univ : Finset S256x128.Idx) = Finset.univ ∨ ∀ a, (Rect.unit (s := S256x1024) off S256x128.size inb).stride a = 1}
    {kk : PUnit → Prog (TpuEff nD τ sig (Elt F) Λ₀ .tc) α} :
    oPt A c hh h.val ⊢ iprop((oPt A c hh (h.val + 1) -∗ run c (kk ⟨⟩) Q)
      -∗ run c (.op (.store tM (Rect.unit (s := S256x1024) off S256x128.size inb) w Finset.univ hx hm) kk) Q) := by
  subst hoff hw
  unfold oPt hold
  iintro ⟨%f, %hf, H⟩ Hk
  iapply (store_at c (m := tM) (r := Rect.unit (s := S256x1024) ![0, 128 * h.val] S256x128.size inb) (Mk := Finset.univ) (S := Finset.univ) (f := f)
    _ (Finset.subset_univ _) (fun _ _ => rfl)) $$ H
  iintro H
  iapply Hk
  iexists _
  isplitr
  rotate_left
  · iexact H
  ipureintro
  exact head_written A c hh h inb f hf

/-! ## The result -/

/-- The first `n` chunks of the result are in place, a device's own first in each half and then backwards around the ring. -/
def outPt (n : ℕ) : sProp 𝕄 :=
  iprop(∃ f : Vec F S2x8x32x1024 .f32, ⌜∀ i, 8 * (i 0).val + (c.val + 8 - (i 1).val) % 8 < n → f i = A.out i⌝ ∗ hold c cc0_stg5_0 f)

theorem run_load_out (n : ℕ) {r : LoadRect S2x8x32x1024} {hl : oM.view.LoadsAt r}
    {kk : (r.shape.Idx → Elt F .f32) → Prog (TpuEff nD τ sig (Elt F) Λ₀ .tc) α} :
    outPt A c n ⊢ iprop((outPt A c n -∗ ∀ x, run c (kk x) Q) -∗ run c (.op (.load oM r hl) kk) Q) := by
  unfold outPt hold
  iintro ⟨%f, %hf, H⟩ Hk
  iapply (load_at c (oM.view.readAt (Elt F) r f) (m := oM) (r := r) (S := Finset.univ) (f := f) (Finset.subset_univ _) rfl) $$ H
  iintro H
  ispecialize Hk $$ [H]
  · iexists f
    isplitr; · ipureintro; exact hf
    iexact H
  iapply Hk

theorem out_written (hh : Fin 2) (k : Fin 8) {off : Fin 4 → ℕ} (hoff : off = ![hh.val, k.val, 0, 0])
    (inb : ∀ a, off a + S1x1x32x1024.size a ≤ (slots 8).size a) (f : Vec F S2x8x32x1024 .f32)
    (hf : ∀ i, 8 * (i 0).val + (c.val + 8 - (i 1).val) % 8 < 8 * hh.val + (c.val + 8 - k.val) % 8 → f i = A.out i) (i : S2x8x32x1024.Idx)
    (hi : 8 * (i 0).val + (c.val + 8 - (i 1).val) % 8 < 8 * hh.val + (c.val + 8 - k.val) % 8 + 1) :
    (oM.access (Rect.unit (s := S2x8x32x1024) off S1x1x32x1024.size inb)).write (Elt F) f (widen (A.red hh k)) Finset.univ i = A.out i := by
  have i0 : (i 0).val < 2 := (i 0).isLt
  have i1 : (i 1).val < 8 := (i 1).isLt
  have hk := k.isLt
  have hc : c.val < 8 := c.isLt
  by_cases hb : i ∈ slab 8 hh.val k.val
  · have hw := write_slab oM.view f (widen (A.red hh k)) hoff inb hb
    rw [show ∀ g, oM.view.read (Elt F) g = g from fun _ => rfl] at hw
    refine Eq.trans hw ?_
    rw [mem_slab] at hb
    have e0 : (⟨(i 0).val, i0⟩ : Fin 2) = hh := Fin.ext hb.1
    have e1 : (⟨(i 1).val, i1⟩ : Fin 8) = k := Fin.ext hb.2
    show _ = widen (A.red (⟨(i 0).val, i0⟩ : Fin 2) (⟨(i 1).val, i1⟩ : Fin 8)) (ix4 0 0 ⟨(i 2).val, (i 2).isLt⟩ ⟨(i 3).val, (i 3).isLt⟩)
    rw [e0, e1]
    rfl
  · refine Eq.trans ?_ (hf i ?_)
    · have hw := write_slab_off oM.view f (widen (A.red hh k)) hoff inb hb
      rw [show ∀ g, oM.view.read (Elt F) g = g from fun _ => rfl, show ∀ g, oM.view.read (Elt F) g = g from fun _ => rfl] at hw
      exact hw
    · rw [mem_slab] at hb
      by_contra hcon
      apply hb
      omega

theorem run_store_out (hh : Fin 2) (k : Fin 8) (n : ℕ) (hn : 8 * hh.val + (c.val + 8 - k.val) % 8 = n) {off : Fin 4 → ℕ} (hoff : off = ![hh.val, k.val, 0, 0])
    (inb : ∀ a, off a + S1x1x32x1024.size a ≤ (slots 8).size a) (w : Vec F S1x1x32x1024 .f32) (hw : w = widen (A.red hh k))
    {hx : (oM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    outPt A c n ⊢ iprop((outPt A c (n + 1) -∗ run c (kk ⟨⟩) Q)
      -∗ run c (.op (.store oM (Rect.unit (s := S2x8x32x1024) off S1x1x32x1024.size inb) w Finset.univ hx hm) kk) Q) := by
  subst hn hw
  unfold outPt hold
  iintro ⟨%f, %hf, H⟩ Hk
  obtain ⟨g, hg⟩ : ∃ g : Vec F S2x8x32x1024 .f32, ∀ i, (oM.access (Rect.unit (s := S2x8x32x1024) off S1x1x32x1024.size inb)).write (Elt F) f (widen (A.red hh k)) Finset.univ i = g i :=
    ⟨_, fun _ => rfl⟩
  iapply (store_at c (m := oM) (r := Rect.unit (s := S2x8x32x1024) off S1x1x32x1024.size inb) (Mk := Finset.univ) (S := Finset.univ) (f := f)
    (g : Buf (Elt F) ((c : Thread nD τ).loc cc0_stg5_0)) (Finset.subset_univ _) (fun i _ => hg i)) $$ H
  iintro H
  iapply Hk
  iexists g
  isplitr
  · ipureintro
    exact fun i hi => (hg i).symm.trans (out_written A c hh k hoff inb f hf i hi)
  · iexact H

end Cert.Attn
end
-- ==== Proof.Stages.lean ====
/-
The stages of the protocol as they progress: what is still to be used and what has been obtained after the first `n`
steps of a stage, and one rule for a step of each.
-/
module

public import proofs.«01_k».proof.Proof.Own

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × CI → ℕ)

/-- Transfer `j` of stage `q`. -/
def tr (q : Fin 4) (j : Fin 7) : Fin 28 := ⟨7 * q.val + j.val, by omega⟩

theorem pos_tr (q : Fin 4) (j : Fin 7) : pos (tr q j) = j := Fin.ext (by
  show (7 * q.val + j.val) % 7 = j.val
  have := j.isLt; omega)
theorem tr_div (q : Fin 4) (j : Fin 7) : (tr q j).val / 7 = q.val := by
  show (7 * q.val + j.val) / 7 = q.val
  have := j.isLt; omega
theorem rx_div (i : Fin 28) : (rx i).val / 7 = i.val / 7 := by
  show (7 * (i.val / 7) + (6 - i.val % 7)) / 7 = i.val / 7
  omega
/-- The half of a stage. -/
def hq (q : Fin 4) : Fin 2 := ⟨q.val / 2, by omega⟩
theorem hf_tr (q : Fin 4) (j : Fin 7) : hf (tr q j) = hq q := Fin.ext (by
  show (7 * q.val + j.val) / 14 = q.val / 2
  have := j.isLt; omega)
theorem rx_tr (q : Fin 4) (j : Fin 7) : rx (tr q j) = tr q j.rev := Fin.ext (by
  show 7 * ((7 * q.val + j.val) / 7) + (6 - (7 * q.val + j.val) % 7) = 7 * q.val + j.rev.val
  rw [Fin.val_rev]
  have := j.isLt; omega)

section Bundles
variable (c : Dev nD)

/-- The signals. -/
def sigTodo (j : Fin 7) : sProp 𝕄 := iprop(dutyTok ER (barCell (up c j)) 0 j ∗ rAny c 0 j.val ∗ rAny c 1 j.val)
def SIG (n : ℕ) : sProp 𝕄 := prog (sigTodo (F := F) c) (fun _ => iprop(emp)) n

/-- The tokens of transfer `i`. -/
def toks (i : Fin 28) : sProp 𝕄 :=
  iprop(dutyTok ER (sendCell c i) 0 (0 : Fin 7) ∗ dutyTok ER (recvCell (dst c i) (rx i)) 0 (0 : Fin 7))
def sent (i : Fin 28) : sProp 𝕄 := cred (tallyAt (sendCell c i) () N)

/-- A scatter stage's transfers. -/
def scTodo (i : Fin 28) : sProp 𝕄 :=
  iprop((cPt c (hf i).val (dst c i).val fullShare (A.part (hf i) c (dst c i)) ∗ rAny (dst c i) (hf i).val (pos i).rev.val) ∗ toks c i)
def SC (q : Fin 4) (n : ℕ) : sProp 𝕄 := prog (fun j => scTodo A c (tr q j)) (fun j => sent c (tr q j)) n

/-- A gather stage's transfers. -/
def gaTodo (i : Fin 28) : sProp 𝕄 := iprop(cAny (dst c i) (hf i).val c.val ∗ toks c i)
def GA (q : Fin 4) (n : ℕ) : sProp 𝕄 :=
  iprop(prog (fun j => gaTodo c (tr q j)) (fun j => sent c (tr q j)) n ∗ cPt c (hq q).val c.val (keep n) (A.red (hq q) c))

/-- A stage's waits for its transfers to have left. -/
def SW (q : Fin 4) (n : ℕ) : sProp 𝕄 :=
  prog (fun j => iprop(sent c (tr q j) ∗ atPos ER (sendCell c (tr q j)) 0 ∅ 0))
    (fun j => iprop(semVal (sendCell c (tr q j)) 0 ∗ sendPay A c (tr q j))) n

/-- A stage's waits for the others' transfers to have arrived. -/
def rwTodo (i : Fin 28) : sProp 𝕄 := iprop(cred (tallyAt (recvCell c i) () N) ∗ atPos ER (recvCell c i) 0 ∅ 0)
def rwDone (i : Fin 28) : sProp 𝕄 := iprop(semVal (recvCell c i) 0 ∗ recvPay A c i)
def RW (q : Fin 4) (n : ℕ) : sProp 𝕄 := prog (fun j => rwTodo c (rx (tr q j))) (fun j => rwDone A c (rx (tr q j))) n

end Bundles

section Steps
variable {α : Type} {Q : α → sProp (MT nD τ sig Unit (Elt F) ℕ UU ℕ)} (c : Dev nD)

theorem step_sig (j : ℕ) (hj : j < 7) (m : ℕ) (hm : m + j = 34) (n : Dev nD) (hn : n = up c ⟨j, hj⟩)
    {k : PUnit → Prog (TpuEff nD τ sig (Elt F) Λ₀ .tc) α} :
    ctx A K ⊢ iprop(ow c (m + 1) -∗ SIG c j -∗ (ow c m -∗ SIG c (j + 1) -∗ run c (k ⟨⟩) Q)
      -∗ run c (.op (.semSignal (n : Thread nD τ) barS 1) k) Q) := by
  iintro #Hc Ho H Hk
  unfold SIG
  ihave Hs := (prog_step (sigTodo (F := F) c) (fun _ => iprop(emp)) ⟨j, hj⟩ j rfl) $$ H
  icases Hs with ⟨Hj, Hrest⟩
  unfold sigTodo
  iapply (run_signal A K c ⟨j, hj⟩ m hm n hn) $$ [Ho Hj]
  · isplitr; · iexact Hc
    isplitl [Ho]; · iexact Ho
    iexact Hj
  iintro Ho
  iapply Hk $$ Ho
  iapply Hrest
  iempintro

theorem step_sc (q : Fin 4) (hq2 : q.val % 2 = 0) (j : ℕ) (hj : j < 7) (m : ℕ) (hm : m + (7 * q.val + j) = 27) (n : Dev nD) (hn : n = up c ⟨j, hj⟩)
    {off off' : Fin 4 → ℕ} (hoff : off = ![(hq q).val, (up c ⟨j, hj⟩).val, 0, 0]) {inb : ∀ a, off a + S1x1x32x1024.size a ≤ (slots 8).size a}
    (hoff' : off' = ![(hq q).val, 6 - j, 0, 0]) {inb' : ∀ a, off' a + S1x1x32x1024.size a ≤ (slots 7).size a}
    (s₁ s₂ : DmaSem sig) (hs₁ : s₁ = sendS (tr q ⟨j, hj⟩)) (hs₂ : s₂ = recvS (tr q (⟨j, hj⟩ : Fin 7).rev)) {hsc} {hsrc} {hdst} {hsem}
    {k : PUnit → Prog (TpuEff nD τ sig (Elt F) Λ₀ .tc) α} :
    ctx A K ⊢ iprop(ow c (m + 1) -∗ SC A c q j -∗ (ow c m -∗ SC A c q (j + 1) -∗ run c (k ⟨⟩) Q)
      -∗ run c (.op (.enqueueDma ((cM.slice (Rect.unit (s := S2x8x32x1024) off S1x1x32x1024.size inb) (fun _ => rfl)).squeeze S32x1024 squeezes_S1x1x32x1024_S32x1024)
          (.remote (Dev.tc n : Thread nD τ) ((rM.slice (Rect.unit (s := S2x7x32x1024) off' S1x1x32x1024.size inb') (fun _ => rfl)).squeeze S32x1024 squeezes_S1x1x32x1024_S32x1024)
            (.dma s₁) hsc) (.dma s₂) hsrc hdst hsem) k) Q) := by
  iintro #Hc Ho H Hk
  unfold SC
  ihave Hs := (prog_step (fun j => scTodo A c (tr q j)) (fun j => sent c (tr q j)) ⟨j, hj⟩ j rfl) $$ H
  icases Hs with ⟨Hj, Hrest⟩
  have hrev : ((⟨j, hj⟩ : Fin 7).rev).val = 6 - j := by rw [Fin.val_rev]; show 7 - (j + 1) = 6 - j; omega
  have hdst' : dst c (tr q ⟨j, hj⟩) = up c ⟨j, hj⟩ := by unfold dst; rw [pos_tr]
  unfold scTodo toks
  icases Hj with ⟨⟨H1, H2⟩, H3, H4⟩
  iapply (run_scatter A K c (tr q ⟨j, hj⟩) (by show ¬ (tr q ⟨j, hj⟩).val / 7 % 2 = 1; rw [tr_div]; omega) m hm n (hn.trans hdst'.symm)
    (hoff.trans (by rw [hdst', hf_tr])) inb (hoff'.trans (by rw [hf_tr, pos_tr, hrev])) inb' s₁ s₂ hs₁ (hs₂.trans (by rw [rx_tr]))) $$ [Ho H1 H2 H3 H4]
  · isplitr; · iexact Hc
    isplitl [Ho]; · iexact Ho
    isplitl [H1]; · iexact H1
    isplitl [H2]; · iexact H2
    isplitl [H3]; · iexact H3
    iexact H4
  iintro ⟨Ho, Hcr⟩
  iapply Hk $$ Ho
  iapply Hrest
  unfold sent; iexact Hcr

theorem step_ga (q : Fin 4) (hq2 : q.val % 2 = 1) (j : ℕ) (hj : j < 7) (m : ℕ) (hm : m + (7 * q.val + j) = 27) (n : Dev nD) (hn : n = up c ⟨j, hj⟩)
    {off : Fin 4 → ℕ} (hoff : off = ![(hq q).val, c.val, 0, 0]) {inb : ∀ a, off a + S1x1x32x1024.size a ≤ (slots 8).size a}
    (s₁ s₂ : DmaSem sig) (hs₁ : s₁ = sendS (tr q ⟨j, hj⟩)) (hs₂ : s₂ = recvS (tr q (⟨j, hj⟩ : Fin 7).rev)) {hsc} {hsrc} {hdst} {hsem}
    {k : PUnit → Prog (TpuEff nD τ sig (Elt F) Λ₀ .tc) α} :
    ctx A K ⊢ iprop(ow c (m + 1) -∗ GA A c q j -∗ (ow c m -∗ GA A c q (j + 1) -∗ run c (k ⟨⟩) Q)
      -∗ run c (.op (.enqueueDma ((cM.slice (Rect.unit (s := S2x8x32x1024) off S1x1x32x1024.size inb) (fun _ => rfl)).squeeze S32x1024 squeezes_S1x1x32x1024_S32x1024)
          (.remote (Dev.tc n : Thread nD τ) ((cM.slice (Rect.unit (s := S2x8x32x1024) off S1x1x32x1024.size inb) (fun _ => rfl)).squeeze S32x1024 squeezes_S1x1x32x1024_S32x1024)
            (.dma s₁) hsc) (.dma s₂) hsrc hdst hsem) k) Q) := by
  iintro #Hc Ho H Hk
  unfold GA
  icases H with ⟨H, Hown⟩
  ihave Hs := (prog_step (fun j => gaTodo c (tr q j)) (fun j => sent c (tr q j)) ⟨j, hj⟩ j rfl) $$ H
  icases Hs with ⟨Hj, Hrest⟩
  have hdst' : dst c (tr q ⟨j, hj⟩) = up c ⟨j, hj⟩ := by unfold dst; rw [pos_tr]
  unfold gaTodo toks
  icases Hj with ⟨H1, H3, H4⟩
  iapply (run_gather A K c (tr q ⟨j, hj⟩) (by show (tr q ⟨j, hj⟩).val / 7 % 2 = 1; rw [tr_div]; omega) m hm n (hn.trans hdst'.symm)
    (hoff.trans (by rw [hf_tr])) inb s₁ s₂ hs₁ (hs₂.trans (by rw [rx_tr]))) $$ [Ho Hown H1 H3 H4]
  · isplitr; · iexact Hc
    isplitl [Ho]; · iexact Ho
    isplitl [Hown]; · rw [hf_tr, pos_tr]; iexact Hown
    isplitl [H1]; · iexact H1
    isplitl [H3]; · iexact H3
    iexact H4
  iintro ⟨Ho, Hcr, Hown⟩
  iapply Hk $$ Ho
  isplitl [Hrest Hcr]
  · iapply Hrest; unfold sent; iexact Hcr
  rw [hf_tr, pos_tr]; iexact Hown

theorem step_sw (q : Fin 4) (j : ℕ) (hj : j < 7) (n : ℕ) (s : DmaSem sig) (hs : s = sendS (tr q ⟨j, hj⟩)) {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {k : PUnit → Prog (TpuEff nD τ sig (Elt F) Λ₀ .tc) α} :
    ctx A K ⊢ iprop(ow c n -∗ SW A c q j -∗ (ow c n -∗ SW A c q (j + 1) -∗ run c (k ⟨⟩) Q)
      -∗ run c (.op (.waitDma2 s src dst hsrc hdst) k) Q) := by
  iintro #Hc Ho H Hk
  unfold SW
  ihave Hs := (prog_step (fun j => iprop(sent c (tr q j) ∗ atPos ER (sendCell c (tr q j)) 0 ∅ 0))
    (fun j => iprop(semVal (sendCell c (tr q j)) 0 ∗ sendPay A c (tr q j))) ⟨j, hj⟩ j rfl) $$ H
  icases Hs with ⟨Hj, Hrest⟩
  icases Hj with ⟨H1, H2⟩
  unfold sent
  iapply (run_wait_send A K c (tr q ⟨j, hj⟩) s hs n hN) $$ [Ho H1 H2]
  · isplitr; · iexact Hc
    isplitl [Ho]; · iexact Ho
    isplitl [H1]; · iexact H1
    iexact H2
  iintro ⟨Ho, Hj⟩
  iapply Hk $$ Ho
  iapply Hrest
  iexact Hj

theorem step_rw (q : Fin 4) (j : ℕ) (hj : j < 7) (n : ℕ) (hn : n ≤ 21 - 7 * q.val) (s : DmaSem sig) (hs : s = recvS (tr q (⟨j, hj⟩ : Fin 7).rev))
    {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N)
    {k : PUnit → Prog (TpuEff nD τ sig (Elt F) Λ₀ .tc) α} :
    ctx A K ⊢ iprop(ow c n -∗ RW A c q j -∗ (ow c n -∗ RW A c q (j + 1) -∗ run c (k ⟨⟩) Q)
      -∗ run c (.op (.waitDma2 s src dst hsrc hdst) k) Q) := by
  iintro #Hc Ho H Hk
  unfold RW
  ihave Hs := (prog_step (fun j => rwTodo c (rx (tr q j))) (fun j => rwDone A c (rx (tr q j))) ⟨j, hj⟩ j rfl) $$ H
  icases Hs with ⟨Hj, Hrest⟩
  unfold rwTodo rwDone
  icases Hj with ⟨H1, H2⟩
  iapply (run_wait_recv A K c (rx (tr q ⟨j, hj⟩)) s (hs.trans (by rw [rx_tr])) n (by rw [rx_div, tr_div]; exact hn) hN) $$ [Ho H1 H2]
  · isplitr; · iexact Hc
    isplitl [Ho]; · iexact Ho
    isplitl [H1]; · iexact H1
    iexact H2
  iintro ⟨Ho, Hj⟩
  iapply Hk $$ Ho
  iapply Hrest
  iexact Hj

/-! ## The chunks and slots of a stage -/

/-- A half's chunks as they are stored. -/
def CH (hh : Fin 2) (n : ℕ) : sProp 𝕄 :=
  prog (fun k : Fin 8 => cAny c hh.val k.val) (fun k : Fin 8 => cPt c hh.val k.val fullShare (A.part hh c k)) n

/-- A load of the chunk about to be stored, whose value is not used. -/
theorem step_ch_load (hh : Fin 2) (n : ℕ) (hn : n < 8) {off : Fin 4 → ℕ} (hoff : off = ![hh.val, n, 0, 0])
    {inb : ∀ a, off a + S1x1x32x1024.size a ≤ (slots 8).size a}
    {hl : cM.view.LoadsAt (Rect.unit (s := S2x8x32x1024) off S1x1x32x1024.size inb).toLoadRect}
    {kk : Vec F S1x1x32x1024 .bf16 → Prog (TpuEff nD τ sig (Elt F) Λ₀ .tc) α} :
    CH A c hh n ⊢ iprop((CH A c hh n -∗ ∀ x, run c (kk x) Q)
      -∗ run c (.op (.load cM (Rect.unit (s := S2x8x32x1024) off S1x1x32x1024.size inb).toLoadRect hl) kk) Q) := by
  unfold CH prog
  rw [bigSep_univ_split (⟨n, hn⟩ : Fin 8), if_neg (Nat.lt_irrefl _)]
  show iprop(cAny c hh.val n ∗ bigSep (Finset.univ.erase (⟨n, hn⟩ : Fin 8)) _) ⊢
    iprop((iprop(cAny c hh.val n ∗ bigSep (Finset.univ.erase (⟨n, hn⟩ : Fin 8)) _) -∗ ∀ x, run c (kk x) Q) -∗ _)
  iintro ⟨H, Hrest⟩ Hk
  iapply (run_load_cAny c hoff inb) $$ H
  iintro H
  ispecialize Hk $$ [H Hrest]
  · isplitl [H]; · iexact H
    iexact Hrest
  iapply Hk

theorem step_ch_store (hh : Fin 2) (n : ℕ) (hn : n < 8) {off : Fin 4 → ℕ} (hoff : off = ![hh.val, n, 0, 0])
    {inb : ∀ a, off a + S1x1x32x1024.size a ≤ (slots 8).size a}
    {w : Vec F S1x1x32x1024 .bf16} (hw : w = A.part hh c ⟨n, hn⟩) {hx : (cM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    CH A c hh n ⊢ iprop((CH A c hh (n + 1) -∗ run c (kk ⟨⟩) Q)
      -∗ run c (.op (.store cM (Rect.unit (s := S2x8x32x1024) off S1x1x32x1024.size inb) w Finset.univ hx hm) kk) Q) := by
  subst hw
  unfold CH
  iintro H Hk
  ihave Hs := (prog_step (fun k : Fin 8 => cAny c hh.val k.val) (fun k : Fin 8 => cPt c hh.val k.val fullShare (A.part hh c k)) ⟨n, hn⟩ n rfl) $$ H
  icases Hs with ⟨Hj, Hrest⟩
  iapply (run_store_c c hoff inb) $$ Hj
  iintro Hj
  iapply Hk
  iapply Hrest
  iexact Hj

/-- A half's received slots. -/
def SL (hh : Fin 2) : sProp 𝕄 := bigSep Finset.univ (fun r : Fin 7 => rPt c hh.val r.val (A.part hh (up c r) c))

theorem step_sl (hh : Fin 2) (r : ℕ) (hr : r < 7) {off : Fin 4 → ℕ} (hoff : off = ![hh.val, r, 0, 0])
    {inb : ∀ a, off a + S1x1x32x1024.size a ≤ (slots 7).size a}
    {hl : rM.view.LoadsAt (Rect.unit (s := S2x7x32x1024) off S1x1x32x1024.size inb).toLoadRect}
    {kk : Vec F S1x1x32x1024 .bf16 → Prog (TpuEff nD τ sig (Elt F) Λ₀ .tc) α} :
    SL A c hh ⊢ iprop((SL A c hh -∗ run c (kk (A.part hh (up c ⟨r, hr⟩) c)) Q)
      -∗ run c (.op (.load rM (Rect.unit (s := S2x7x32x1024) off S1x1x32x1024.size inb).toLoadRect hl) kk) Q) := by
  unfold SL
  rw [bigSep_univ_split (⟨r, hr⟩ : Fin 7)]
  show iprop(rPt c hh.val r (A.part hh (up c ⟨r, hr⟩) c) ∗ bigSep (Finset.univ.erase (⟨r, hr⟩ : Fin 7)) _) ⊢
    iprop((iprop(rPt c hh.val r (A.part hh (up c ⟨r, hr⟩) c) ∗ bigSep (Finset.univ.erase (⟨r, hr⟩ : Fin 7)) _) -∗ run c (kk _) Q) -∗ _)
  iintro ⟨H, Hrest⟩ Hk
  iapply (run_load_r c hoff inb) $$ H
  iintro H
  iapply Hk
  isplitl [H]; · iexact H
  iexact Hrest

/-- A load of an arrived sum. -/
theorem step_rw_load (q : Fin 4) (hq2 : q.val % 2 = 1) (n : ℕ) (j : ℕ) (hj : j < 7) (hn : j < n) {off : Fin 4 → ℕ}
    (hoff : off = ![(hq q).val, (up c (⟨j, hj⟩ : Fin 7).rev).val, 0, 0])
    {inb : ∀ a, off a + S1x1x32x1024.size a ≤ (slots 8).size a}
    {hl : cM.view.LoadsAt (Rect.unit (s := S2x8x32x1024) off S1x1x32x1024.size inb).toLoadRect}
    {kk : Vec F S1x1x32x1024 .bf16 → Prog (TpuEff nD τ sig (Elt F) Λ₀ .tc) α} :
    RW A c q n ⊢ iprop((RW A c q n -∗ run c (kk (A.red (hq q) (up c (⟨j, hj⟩ : Fin 7).rev))) Q)
      -∗ run c (.op (.load cM (Rect.unit (s := S2x8x32x1024) off S1x1x32x1024.size inb).toLoadRect hl) kk) Q) := by
  unfold RW
  iintro H Hk
  ihave Hs := (prog_look (fun j => rwTodo c (rx (tr q j))) (fun j => rwDone A c (rx (tr q j))) ⟨j, hj⟩ n hn) $$ H
  icases Hs with ⟨Hj, Hrest⟩
  unfold rwDone recvPay
  have hg : Gather (rx (tr q ⟨j, hj⟩)) := (gather_rx _).mpr (by show (tr q ⟨j, hj⟩).val / 7 % 2 = 1; rw [tr_div]; exact hq2)
  rw [if_pos hg, pos_rx, hf_rx, hf_tr, pos_tr]
  icases Hj with ⟨Hz, Hp⟩
  iapply (run_load_c c hoff inb) $$ Hp
  iintro Hp
  iapply Hk
  iapply Hrest
  isplitl [Hz]; · iexact Hz
  iexact Hp

/-- A load of the own summed chunk. -/
theorem step_own_load (hh : Fin 2) (q : PosShare TreeShare) {off : Fin 4 → ℕ} (hoff : off = ![hh.val, c.val, 0, 0])
    {inb : ∀ a, off a + S1x1x32x1024.size a ≤ (slots 8).size a} {w : Vec F S1x1x32x1024 .bf16}
    {hl : cM.view.LoadsAt (Rect.unit (s := S2x8x32x1024) off S1x1x32x1024.size inb).toLoadRect}
    {kk : Vec F S1x1x32x1024 .bf16 → Prog (TpuEff nD τ sig (Elt F) Λ₀ .tc) α} :
    cPt c hh.val c.val q w ⊢ iprop((cPt c hh.val c.val q w -∗ run c (kk w) Q)
      -∗ run c (.op (.load cM (Rect.unit (s := S2x8x32x1024) off S1x1x32x1024.size inb).toLoadRect hl) kk) Q) :=
  run_load_c c hoff inb

end Steps
end Cert.Attn
end
-- ==== Proof.Heads.lean ====
/-
The recurring groups of steps: a head (its keys and values loaded, its columns stored), a chunk of the projected rows,
and a chunk of the result.
-/
module

public import proofs.«01_k».proof.Proof.Stages

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (A : Inp F) (K : Dev nD × CI → ℕ)

/-- A stretch of the body taken at the kernel's buffers and semaphores. -/
abbrev app {β : Type _} (f : (arg0 : Memref sig .tc .vmem S512x1024 .f32) → arg0.IsWhole → (arg1 : Memref sig .tc .vmem S1024x1024 .f32) → arg1.IsWhole
    → (arg2 : Memref sig .tc .vmem S1024x1024 .f32) → arg2.IsWhole → (arg3 : Memref sig .tc .vmem S2048x1024 .f32) → arg3.IsWhole
    → (arg4 : Memref sig .tc .vmem S2048x1024 .f32) → arg4.IsWhole → (arg5 : Memref sig .tc .vmem S2x8x32x1024 .f32) → arg5.IsWhole
    → (arg6 : Memref sig .tc .vmem S2x8x32x1024 .bf16) → arg6.IsWhole → (arg7 : Memref sig .tc .vmem S2x7x32x1024 .bf16) → arg7.IsWhole
    → (arg8 : Memref sig .tc .vmem S256x1024 .f32) → arg8.IsWhole → DmaSems sig S28 → DmaSems sig S28 → β) : β :=
  f xM (Memref.isWhole_whole _) wqM (Memref.isWhole_whole _) woM (Memref.isWhole_whole _) kM (Memref.isWhole_whole _) vM (Memref.isWhole_whole _)
    oM (Memref.isWhole_whole _) cM (Memref.isWhole_whole _) rM (Memref.isWhole_whole _) tM (Memref.isWhole_whole _) cc0_scratch3 cc0_scratch4

theorem dev_eq (c : Dev nD) (j : Fin 7) {v : ℕ} (hv : v < 8) (h : v = (c.val + (j.val + 1)) % 8) : (⟨v, hv⟩ : Dev nD) = up c j :=
  Fin.ext h

section Steps
variable {α : Type} {Q : α → sProp (MT nD τ sig Unit (Elt F) ℕ UU ℕ)} (c : Dev nD)

/-- The keys and the values held. -/
def KV : sProp 𝕄 := iprop(hold c cc0_stg3_0 (A.k c) ∗ hold c cc0_stg4_0 (A.v c))

theorem step_k (h : ℕ) (h8 : h < 8) {off : Fin 2 → ℕ} (hoff : off = ![0, 128 * h]) {inb : ∀ a, off a + S2048x128.size a ≤ S2048x1024.size a}
    {hl : kM.view.LoadsAt (Rect.unit (s := S2048x1024) off S2048x128.size inb).toLoadRect}
    {kk : Vec F S2048x128 .f32 → Prog (TpuEff nD τ sig (Elt F) Λ₀ .tc) α} :
    KV A c ⊢ iprop((KV A c -∗ run c (kk (col (A.k c) ⟨h, h8⟩)) Q)
      -∗ run c (.op (.load kM (Rect.unit (s := S2048x1024) off S2048x128.size inb).toLoadRect hl) kk) Q) := by
  unfold KV
  iintro ⟨HK, HV⟩ Hk
  iapply (run_load_k c ⟨h, h8⟩ hoff inb) $$ HK
  iintro HK
  iapply Hk
  isplitl [HK]; · iexact HK
  iexact HV

theorem step_v (h : ℕ) (h8 : h < 8) {off : Fin 2 → ℕ} (hoff : off = ![0, 128 * h]) {inb : ∀ a, off a + S2048x128.size a ≤ S2048x1024.size a}
    {hl : vM.view.LoadsAt (Rect.unit (s := S2048x1024) off S2048x128.size inb).toLoadRect}
    {kk : Vec F S2048x128 .f32 → Prog (TpuEff nD τ sig (Elt F) Λ₀ .tc) α} :
    KV A c ⊢ iprop((KV A c -∗ run c (kk (col (A.v c) ⟨h, h8⟩)) Q)
      -∗ run c (.op (.load vM (Rect.unit (s := S2048x1024) off S2048x128.size inb).toLoadRect hl) kk) Q) := by
  unfold KV
  iintro ⟨HK, HV⟩ Hk
  iapply (run_load_v c ⟨h, h8⟩ hoff inb) $$ HV
  iintro HV
  iapply Hk
  isplitl [HK]; · iexact HK
  iexact HV

/-- The columns of a head stored, after a load whose value is not used. -/
theorem step_put (hh : Fin 2) (h : ℕ) (h8 : h < 8) (w : Vec F S256x128 .f32)
    (hw : w = headV (half (A.q c) hh) ⟨h, h8⟩ (col (A.k c) ⟨h, h8⟩) (col (A.v c) ⟨h, h8⟩))
    {off : Fin 2 → ℕ} (hoff : off = ![0, 128 * h]) {inb : ∀ a, off a + S256x128.size a ≤ S256x1024.size a}
    {hl : tM.view.LoadsAt (Rect.unit (s := S256x1024) off S256x128.size inb).toLoadRect}
    {hx : (tM.access (Rect.unit (s := S256x1024) off S256x128.size inb)).Stores Finset.univ}
    {hm : (Finset.univ : Finset S256x128.Idx) = Finset.univ ∨ ∀ a, (Rect.unit (s := S256x1024) off S256x128.size inb).stride a = 1}
    {kk : PUnit → Prog (TpuEff nD τ sig (Elt F) Λ₀ .tc) α} :
    oPt A c hh h ⊢ iprop((oPt A c hh (h + 1) -∗ run c (kk ⟨⟩) Q)
      -∗ run c (.op (.load tM (Rect.unit (s := S256x1024) off S256x128.size inb).toLoadRect hl) fun _ =>
        .op (.store tM (Rect.unit (s := S256x1024) off S256x128.size inb) w Finset.univ hx hm) kk) Q) := by
  iintro HO Hk
  iapply (run_load_o A c hh h) $$ HO
  iintro HO %x
  iapply (run_store_o A c hh ⟨h, h8⟩ hoff inb w hw) $$ HO
  iexact Hk

/-- A whole head. -/
theorem step_head (hh : Fin 2) (h : ℕ) (h8 : h < 8) (p : Vec F S2048x128 .f32 → Vec F S2048x128 .f32 → Vec F S256x128 .f32)
    (hp : p (col (A.k c) ⟨h, h8⟩) (col (A.v c) ⟨h, h8⟩) = headV (half (A.q c) hh) ⟨h, h8⟩ (col (A.k c) ⟨h, h8⟩) (col (A.v c) ⟨h, h8⟩))
    {off : Fin 2 → ℕ} (hoff : off = ![0, 128 * h]) {inbk : ∀ a, off a + S2048x128.size a ≤ S2048x1024.size a}
    {hlk : kM.view.LoadsAt (Rect.unit (s := S2048x1024) off S2048x128.size inbk).toLoadRect}
    {hlv : vM.view.LoadsAt (Rect.unit (s := S2048x1024) off S2048x128.size inbk).toLoadRect}
    {inb : ∀ a, off a + S256x128.size a ≤ S256x1024.size a}
    {hl : tM.view.LoadsAt (Rect.unit (s := S256x1024) off S256x128.size inb).toLoadRect}
    {hx : (tM.access (Rect.unit (s := S256x1024) off S256x128.size inb)).Stores Finset.univ}
    {hm : (Finset.univ : Finset S256x128.Idx) = Finset.univ ∨ ∀ a, (Rect.unit (s := S256x1024) off S256x128.size inb).stride a = 1}
    {kk : PUnit → Prog (TpuEff nD τ sig (Elt F) Λ₀ .tc) α} :
    KV A c ⊢ iprop(oPt A c hh h -∗ (KV A c -∗ oPt A c hh (h + 1) -∗ run c (kk ⟨⟩) Q)
      -∗ run c (.op (.load kM (Rect.unit (s := S2048x1024) off S2048x128.size inbk).toLoadRect hlk) fun a =>
        .op (.load vM (Rect.unit (s := S2048x1024) off S2048x128.size inbk).toLoadRect hlv) fun b =>
        .op (.load tM (Rect.unit (s := S256x1024) off S256x128.size inb).toLoadRect hl) fun _ =>
        .op (.store tM (Rect.unit (s := S256x1024) off S256x128.size inb) (p a b) Finset.univ hx hm) kk) Q) := by
  iintro H HO Hk
  iapply (step_k A c h h8 hoff) $$ H
  iintro H
  iapply (step_v A c h h8 hoff) $$ H
  iintro H
  iapply (step_put A c hh h h8 _ hp hoff) $$ HO
  iintro HO
  iapply Hk $$ H HO

/-- A chunk stored, after a load whose value is not used. -/
theorem step_ch (hh : Fin 2) (n : ℕ) (hn : n < 8) {w : Vec F S1x1x32x1024 .bf16} (hw : w = A.part hh c ⟨n, hn⟩)
    {off : Fin 4 → ℕ} (hoff : off = ![hh.val, n, 0, 0])
    {inb : ∀ a, off a + S1x1x32x1024.size a ≤ (slots 8).size a}
    {hl : cM.view.LoadsAt (Rect.unit (s := S2x8x32x1024) off S1x1x32x1024.size inb).toLoadRect}
    {hx : (cM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    CH A c hh n ⊢ iprop((CH A c hh (n + 1) -∗ run c (kk ⟨⟩) Q)
      -∗ run c (.op (.load cM (Rect.unit (s := S2x8x32x1024) off S1x1x32x1024.size inb).toLoadRect hl) fun _ =>
        .op (.store cM (Rect.unit (s := S2x8x32x1024) off S1x1x32x1024.size inb) w Finset.univ hx hm) kk) Q) := by
  iintro H Hk
  iapply (step_ch_load A c hh n hn hoff) $$ H
  iintro H %x
  iapply (step_ch_store A c hh n hn hoff hw) $$ H
  iexact Hk

/-- The own summed chunk copied to the result. -/
theorem step_out_own (hh : Fin 2) (n : ℕ) (hn : n = 8 * hh.val) (q : PosShare TreeShare) {off : Fin 4 → ℕ} (hoff : off = ![hh.val, c.val, 0, 0])
    {p : Vec F S1x1x32x1024 .bf16 → Vec F S1x1x32x1024 .f32} (hp : p = widen)
    {inb : ∀ a, off a + S1x1x32x1024.size a ≤ (slots 8).size a}
    {hl : cM.view.LoadsAt (Rect.unit (s := S2x8x32x1024) off S1x1x32x1024.size inb).toLoadRect}
    {hlo : oM.view.LoadsAt (Rect.unit (s := S2x8x32x1024) off S1x1x32x1024.size inb).toLoadRect}
    {hx : (oM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    cPt c hh.val c.val q (A.red hh c) ⊢ iprop(outPt A c n -∗ (cPt c hh.val c.val q (A.red hh c) -∗ outPt A c (n + 1) -∗ run c (kk ⟨⟩) Q)
      -∗ run c (.op (.load cM (Rect.unit (s := S2x8x32x1024) off S1x1x32x1024.size inb).toLoadRect hl) fun a =>
        .op (.load oM (Rect.unit (s := S2x8x32x1024) off S1x1x32x1024.size inb).toLoadRect hlo) fun _ =>
        .op (.store oM (Rect.unit (s := S2x8x32x1024) off S1x1x32x1024.size inb) (p a) Finset.univ hx hm) kk) Q) := by
  subst hp
  iintro H HO Hk
  iapply (step_own_load c hh q hoff) $$ H
  iintro H
  iapply (run_load_out A c n) $$ HO
  iintro HO %x
  iapply (run_store_out A c hh c n (by rw [hn, Nat.add_sub_cancel_left]; rfl) hoff inb _ rfl) $$ HO
  iintro HO
  iapply Hk $$ H HO

/-- An arrived sum copied to the result. -/
theorem step_out_rw (q : Fin 4) (hq2 : q.val % 2 = 1) (m : ℕ) (j : ℕ) (hj : j < 7) (hm' : j < m) (n : ℕ) (hn : n = 8 * (hq q).val + (j + 1)) {off : Fin 4 → ℕ}
    (hoff : off = ![(hq q).val, (up c (⟨j, hj⟩ : Fin 7).rev).val, 0, 0])
    {p : Vec F S1x1x32x1024 .bf16 → Vec F S1x1x32x1024 .f32} (hp : p = widen)
    {inb : ∀ a, off a + S1x1x32x1024.size a ≤ (slots 8).size a}
    {hl : cM.view.LoadsAt (Rect.unit (s := S2x8x32x1024) off S1x1x32x1024.size inb).toLoadRect}
    {hlo : oM.view.LoadsAt (Rect.unit (s := S2x8x32x1024) off S1x1x32x1024.size inb).toLoadRect}
    {hx : (oM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    RW A c q m ⊢ iprop(outPt A c n -∗ (RW A c q m -∗ outPt A c (n + 1) -∗ run c (kk ⟨⟩) Q)
      -∗ run c (.op (.load cM (Rect.unit (s := S2x8x32x1024) off S1x1x32x1024.size inb).toLoadRect hl) fun a =>
        .op (.load oM (Rect.unit (s := S2x8x32x1024) off S1x1x32x1024.size inb).toLoadRect hlo) fun _ =>
        .op (.store oM (Rect.unit (s := S2x8x32x1024) off S1x1x32x1024.size inb) (p a) Finset.univ hx hm) kk) Q) := by
  subst hp
  iintro H HO Hk
  iapply (step_rw_load A c q hq2 m j hj hm' hoff) $$ H
  iintro H
  iapply (run_load_out A c n) $$ HO
  iintro HO %x
  have hrev : ((⟨j, hj⟩ : Fin 7).rev).val = 6 - j := by rw [Fin.val_rev]; show 7 - (j + 1) = 6 - j; omega
  iapply (run_store_out A c (hq q) (up c (⟨j, hj⟩ : Fin 7).rev) n (by
    have hc : c.val < 8 := c.isLt
    show 8 * (hq q).val + (c.val + 8 - (c.val + ((⟨j, hj⟩ : Fin 7).rev).val + 1) % 8) % 8 = n
    rw [hrev]; omega) hoff inb _ rfl) $$ HO
  iintro HO
  iapply Hk $$ H HO

/-- A wait for an arrival, and the arrived sum copied to the result. -/
theorem step_take (q : Fin 4) (hq2 : q.val % 2 = 1) (j : ℕ) (hj : j < 7) (n : ℕ) (hn : n ≤ 21 - 7 * q.val) (s : DmaSem sig) (hs : s = recvS (tr q (⟨j, hj⟩ : Fin 7).rev))
    {sp sp' : Space} {s₁ s₂ : Shape} {e₁ e₂ : EltTy} {κ' : Kind}
    {src : Memref sig .tc sp' s₁ e₁} {dst : Memref sig κ' sp s₂ e₂} {hsrc : src.view.WordExact} {hdst : dst.view.WordExact}
    (hN : dst.view.dmaCredit = N) (n' : ℕ) (hn' : n' = 8 * (hq q).val + (j + 1)) {off : Fin 4 → ℕ}
    (hoff : off = ![(hq q).val, (up c (⟨j, hj⟩ : Fin 7).rev).val, 0, 0])
    {p : Vec F S1x1x32x1024 .bf16 → Vec F S1x1x32x1024 .f32} (hp : p = widen)
    {inb : ∀ a, off a + S1x1x32x1024.size a ≤ (slots 8).size a}
    {hl : cM.view.LoadsAt (Rect.unit (s := S2x8x32x1024) off S1x1x32x1024.size inb).toLoadRect}
    {hlo : oM.view.LoadsAt (Rect.unit (s := S2x8x32x1024) off S1x1x32x1024.size inb).toLoadRect}
    {hx : (oM.access (Rect.unit (s := S2x8x32x1024) off S1x1x32x1024.size inb)).Stores Finset.univ}
    {hm : (Finset.univ : Finset S1x1x32x1024.Idx) = Finset.univ ∨ ∀ a, (Rect.unit (s := S2x8x32x1024) off S1x1x32x1024.size inb).stride a = 1}
    {kk : PUnit → Prog (TpuEff nD τ sig (Elt F) Λ₀ .tc) α} :
    ctx A K ⊢ iprop(ow c n -∗ RW A c q j -∗ outPt A c n' -∗ (ow c n -∗ RW A c q (j + 1) -∗ outPt A c (n' + 1) -∗ run c (kk ⟨⟩) Q)
      -∗ run c (.op (.waitDma2 s src dst hsrc hdst) fun _ =>
        .op (.load cM (Rect.unit (s := S2x8x32x1024) off S1x1x32x1024.size inb).toLoadRect hl) fun a =>
        .op (.load oM (Rect.unit (s := S2x8x32x1024) off S1x1x32x1024.size inb).toLoadRect hlo) fun _ =>
        .op (.store oM (Rect.unit (s := S2x8x32x1024) off S1x1x32x1024.size inb) (p a) Finset.univ hx hm) kk) Q) := by
  iintro #Hc Ho HR HU Hk
  iapply (step_rw A K c q j hj n hn s hs hN) $$ Hc Ho HR
  iintro Ho HR
  iapply (step_out_rw A c q hq2 (j + 1) j hj (Nat.lt_succ_self j) n' hn' hoff hp) $$ HR HU
  iintro HR HU
  iapply Hk $$ Ho HR HU

/-- A gather stage's chunks and tokens before its first transfer. -/
def GT (q : Fin 4) : sProp 𝕄 := bigSep Finset.univ (fun j => gaTodo (F := F) c (tr q j))

/-- The stage begins with the own sum whole. -/
theorem ga_start (q : Fin 4) (hh : Fin 2) (h : hq q = hh) : cPt c hh.val c.val fullShare (A.red hh c) ⊢ iprop(GT c q -∗ GA A c q 0) := by
  subst h
  unfold GT GA
  rw [prog_zero]
  iintro H HT
  isplitl [HT]; · iexact HT
  iexact H

theorem off5_up (j : Fin 7) : k0_off5 c (BitVec.ofNat 32 (1 + j.val)) = ![0, (up c j.rev).val, 0, 0] := by
  revert c j; decide
theorem off8_up (j : Fin 7) : k0_off8 c (BitVec.ofNat 32 (1 + j.val)) = ![1, (up c j.rev).val, 0, 0] := by
  revert c j; decide

end Steps
end Cert.Attn
end
-- ==== Proof.Glue.lean ====
/-
Between the stages: what one stage ends with is what the next begins with.
-/
module

public import proofs.«01_k».proof.Proof.Heads

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (c : Dev nD)

/-- The other devices, in the order they are addressed. -/
def upE : Fin 7 ↪ Dev nD := ⟨up c, fun i j h => by revert c i j; decide⟩
theorem erase_up : (Finset.univ : Finset (Dev nD)).erase c = Finset.univ.map (upE c) := by
  ext k; rw [Finset.mem_map]; revert c k; decide

/-- Over all devices: one and the seven others. -/
theorem dev_split (Φ : Dev nD → sProp (MT nD τ sig Unit (Elt F) ℕ UU ℕ)) :
    bigSep Finset.univ Φ = iprop(Φ c ∗ bigSep Finset.univ (fun j : Fin 7 => Φ (up c j))) := by
  rw [bigSep_univ_split c, erase_up c, bigSep_map]; rfl

theorem dev_open (Φ : Dev nD → sProp (MT nD τ sig Unit (Elt F) ℕ UU ℕ)) :
    bigSep Finset.univ Φ ⊢ iprop(Φ c ∗ bigSep Finset.univ (fun j : Fin 7 => Φ (up c j))) := by
  rw [dev_split c]

theorem mono7 {Φ Ψ : Fin 7 → sProp (MT nD τ sig Unit (Elt F) ℕ UU ℕ)} (h : ∀ j, Φ j ⊢ Ψ j) :
    bigSep Finset.univ Φ ⊢ bigSep Finset.univ Ψ := bigSep_mono fun j _ => h j

/-- Over seven places in either direction. -/
theorem rev7 (Φ : Fin 7 → sProp (MT nD τ sig Unit (Elt F) ℕ UU ℕ)) :
    bigSep Finset.univ Φ = bigSep Finset.univ (fun j : Fin 7 => Φ j.rev) := bigSep_univ_equiv Fin.revPerm Φ

theorem sep7 (Φ Ψ : Fin 7 → sProp (MT nD τ sig Unit (Elt F) ℕ UU ℕ)) :
    bigSep Finset.univ (fun j => iprop(Φ j ∗ Ψ j)) = iprop(bigSep Finset.univ Φ ∗ bigSep Finset.univ Ψ) := bigSep_sep Finset.univ Φ Ψ

/-- The slots of a scatter stage's transfers, on the others, with the tokens. -/
def ST (q : Fin 4) : sProp 𝕄 := bigSep Finset.univ (fun j : Fin 7 => iprop(rAny (up c j) (hq q).val j.rev.val ∗ toks c (tr q j)))
/-- The tokens alone. -/
def TK (q : Fin 4) : sProp 𝕄 := bigSep Finset.univ (fun j : Fin 7 => toks (F := F) c (tr q j))
/-- The waiting positions of a stage's send semaphores, and the semaphores at zero. -/
def SP (q : Fin 4) : sProp 𝕄 := bigSep Finset.univ (fun j : Fin 7 => atPos ER (sendCell c (tr q j)) 0 ∅ 0)
def SZ (q : Fin 4) : sProp 𝕄 := bigSep Finset.univ (fun j : Fin 7 => semVal (sendCell c (tr q j)) 0)
def RZ (q : Fin 4) : sProp 𝕄 := bigSep Finset.univ (fun j : Fin 7 => semVal (recvCell c (tr q j)) 0)
/-- The others' chunks of this device's number. -/
def UC (hh : Fin 2) : sProp 𝕄 := bigSep Finset.univ (fun j : Fin 7 => cAny (F := F) (up c j) hh.val c.val)

/-- The signals received hand over the slots of both halves. -/
theorem bar_split : bigSep Finset.univ (barPay (F := F) c) ⊢ iprop(TK c 0 -∗ TK c 2 -∗ (ST c 0 ∗ ST c 2)) := by
  unfold barPay ST TK
  rw [sep7, rev7 (fun j => rAny (up c j.rev) 0 j.val), rev7 (fun j => rAny (up c j.rev) 1 j.val), sep7, sep7]
  simp only [Fin.rev_rev]
  iintro ⟨H0, H1⟩ T0 T2
  isplitl [H0 T0]
  · isplitl [H0]; · iexact H0
    iexact T0
  isplitl [H1]; · iexact H1
  iexact T2

/-- A scatter stage begins with the half's chunks stored. -/
theorem sc_start (q : Fin 4) (hh : Fin 2) (h : hq q = hh) :
    CH A c hh 8 ⊢ iprop(ST c q -∗ (cPt c hh.val c.val fullShare (A.part hh c c) ∗ SC A c q 0)) := by
  subst h
  unfold CH SC ST scTodo
  rw [prog_full, prog_zero, sep7, sep7, sep7]
  simp only [hf_tr, dst, pos_tr]
  iintro H ⟨HR, HT⟩
  ihave H := (dev_open c (fun k => cPt c (hq q).val k.val fullShare (A.part (hq q) c k))) $$ H
  icases H with ⟨H1, H2⟩
  isplitl [H1]; · iexact H1
  isplitl [H2 HR]
  · isplitl [H2]; · iexact H2
    iexact HR
  iexact HT

/-- A stage's transfers issued, the waits for them begin. -/
theorem sw_start (q : Fin 4) : SC A c q 7 ⊢ iprop(SP c q -∗ SW A c q 0) := by
  unfold SC SW SP
  rw [prog_full, prog_zero, sep7]
  iintro H HP
  isplitl [H]; · iexact H
  iexact HP
theorem sw_start' (q : Fin 4) (hh : Fin 2) (h : hq q = hh) :
    GA A c q 7 ⊢ iprop(SP c q -∗ (SW A c q 0 ∗ cPt c hh.val c.val (keep 7) (A.red hh c))) := by
  subst h
  unfold GA SW SP
  rw [prog_full, prog_zero, sep7]
  iintro ⟨H, HO⟩ HP
  isplitl [H HP]
  · isplitl [H]; · iexact H
    iexact HP
  iexact HO

theorem gather_tr (q : Fin 4) (j : Fin 7) : Gather (tr q j) ↔ q.val % 2 = 1 := by
  show (tr q j).val / 7 % 2 = 1 ↔ _
  rw [tr_div]

/-- A scatter stage's arrivals: the slots filled, and the right to write the others' chunks. -/
theorem rw_scatter (q : Fin 4) (hq2 : q.val % 2 = 0) (hh : Fin 2) (h : hq q = hh) :
    RW A c q 7 ⊢ iprop(RZ c q ∗ SL A c hh ∗ UC c hh) := by
  subst h
  unfold RW rwDone RZ SL UC
  rw [prog_full]
  simp only [rx_tr]
  rw [← rev7 (fun j => iprop(semVal (recvCell c (tr q j)) 0 ∗ recvPay A c (tr q j))), sep7]
  unfold recvPay
  simp only [gather_tr, if_neg (show ¬ q.val % 2 = 1 by omega), hf_tr, pos_tr]
  rw [sep7]
  iintro ⟨HZ, HL, HC⟩
  isplitl [HZ]; · iexact HZ
  isplitl [HL]; · iexact HL
  iapply (mono7 fun j => cPt_any (up c j) _ _ _) $$ HC

/-- The sums arrived with a gather stage. -/
def RC (hh : Fin 2) : sProp 𝕄 := bigSep Finset.univ (fun j : Fin 7 => cPt c hh.val (up c j).val fullShare (A.red hh (up c j)))

theorem rw_gather (q : Fin 4) (hq2 : q.val % 2 = 1) (hh : Fin 2) (h : hq q = hh) :
    RW A c q 7 ⊢ iprop(RZ c q ∗ RC A c hh) := by
  subst h
  unfold RW rwDone RZ RC
  rw [prog_full]
  simp only [rx_tr]
  rw [← rev7 (fun j => iprop(semVal (recvCell c (tr q j)) 0 ∗ recvPay A c (tr q j))), sep7]
  unfold recvPay
  simp only [gather_tr, if_pos hq2, hf_tr, pos_tr]
  iintro H
  iexact H

theorem sw_scatter (q : Fin 4) : SW A c q 7 ⊢ iprop(SZ c q ∗ bigSep Finset.univ (fun j => sendPay A c (tr q j))) := by
  unfold SW SZ
  rw [prog_full, sep7]

/-- The pieces lent come back. -/
theorem unlend (hh k : ℕ) (w : Vec F S1x1x32x1024 .bf16) :
    cPt c hh k (keep 7) w ⊢ iprop(bigSep Finset.univ (fun j : Fin 7 => cPt c hh k (lent j.val) w) -∗ cPt c hh k fullShare w) := by
  have step : ∀ n, iprop(cPt c hh k (keep (n + 1)) w ∗ cPt c hh k (lent n) w) ⊢ cPt c hh k (keep n) w := fun n => (cPt_lend c hh k n w).2
  have all : ∀ n, n ≤ 7 → cPt c hh k (keep n) w ⊢ iprop(bigSep (Finset.univ.filter fun j : Fin 7 => j.val < n) (fun j : Fin 7 => cPt c hh k (lent j.val) w)
      -∗ cPt c hh k fullShare w) := by
    intro n
    induction n with
    | zero => intro _; iintro H _; iexact H
    | succ n ih =>
      intro hn
      have e : (Finset.univ.filter fun j : Fin 7 => j.val < n + 1) = insert (⟨n, hn⟩ : Fin 7) (Finset.univ.filter fun j : Fin 7 => j.val < n) := by
        ext j; simp only [Finset.mem_filter, Finset.mem_univ, true_and, Finset.mem_insert, Fin.ext_iff]; omega
      rw [e, bigSep_insert (by simp)]
      show _ ⊢ iprop((cPt c hh k (lent n) w ∗ bigSep _ _) -∗ _)
      iintro H ⟨H1, H2⟩
      ihave H := (step n) $$ [H H1]
      · isplitl [H]; · iexact H
        iexact H1
      iapply (ih (by omega)) $$ H H2
  have h7 := all 7 (le_refl 7)
  rwa [show (Finset.univ.filter fun j : Fin 7 => j.val < 7) = Finset.univ from Finset.filter_true_of_mem fun j _ => j.isLt] at h7

/-- After a half's gather stage every chunk of the half is held again. -/
def CX (hh : Fin 2) : sProp 𝕄 := bigSep Finset.univ (fun k : Dev nD => cAny (F := F) c hh.val k.val)

theorem half_done (q : Fin 4) (hq2 : q.val % 2 = 1) (hh : Fin 2) (h : hq q = hh) :
    SW A c q 7 ⊢ iprop(RW A c q 7 -∗ cPt c hh.val c.val (keep 7) (A.red hh c) -∗ (SZ c q ∗ RZ c q ∗ CX c hh)) := by
  iintro HS HR HO
  ihave HR := (rw_gather A c q hq2 hh h) $$ HR
  icases HR with ⟨HZ, HC⟩
  ihave HS := (sw_scatter A c q) $$ HS
  icases HS with ⟨HZ', HL⟩
  isplitl [HZ']; · iexact HZ'
  isplitl [HZ]; · iexact HZ
  subst h
  unfold sendPay RC CX
  simp only [gather_tr, if_pos hq2, hf_tr, pos_tr]
  ihave HO := (unlend c _ _ _) $$ HO HL
  rw [dev_split c]
  isplitl [HO]; · iapply (cPt_any c _ _ _) $$ HO
  iapply (mono7 fun j => cPt_any c _ _ _) $$ HC

/-- A gather stage's tokens and the right to write the others. -/
theorem gt_start (q : Fin 4) (hh : Fin 2) (h : hq q = hh) : UC (F := F) c hh ⊢ iprop(TK c q -∗ GT c q) := by
  subst h
  unfold UC TK GT gaTodo
  rw [sep7]
  simp only [hf_tr, dst, pos_tr]
  iintro H HT
  isplitl [H]; · iexact H
  iexact HT

end Cert.Attn
end
-- ==== Proof.Parts1.lean ====
/-
The body's stretches up to the first scatter stage: the signals, the first half's heads and chunks, and the wait for
the others' signals.
-/
module

public import proofs.«01_k».proof.Proof.Glue

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A : Inp F) (K : Dev nD × CI → ℕ) (c : Dev nD)

abbrev barA : Sems sig S_ := SemArray.scalar (sig.barrier 0 rfl)

theorem run_ret {α : Type} {v : α} {Q : α → sProp (MT nD τ sig Unit (Elt F) ℕ UU ℕ)} : Q v ⊢ run c (.ret v) Q := by
  unfold run; rw [wp_ret]
  iintro H; imodintro; iexact H

theorem part1 {Q} : ctx A K ⊢ iprop(ow c 35 -∗ SIG c 0 -∗ (∀ w w', ow c 30 -∗ SIG c 5 -∗ Q ⟨c, w, barA, w', 8#32⟩) -∗ run c (app (k0_part1 (F := F))) Q) := by
  unfold app
  rw [k0_part1_eq_skeleton]
  unfold k0_part1_skel
  simp only [semSignalWord, Prog.lift, Prog.bind_op, Prog.bind_ret, Prog.pure_eq_ret, wp_deviceId]
  iintro #Hc Ho H Hk
  iapply (step_sig A K c 0 (by decide) 34 rfl _ (dev_eq c 0 _ (k0_dev1_eq c))) $$ Hc Ho H
  iintro Ho H
  iapply (step_sig A K c 1 (by decide) 33 rfl _ (dev_eq c 1 _ (k0_dev2_eq c))) $$ Hc Ho H
  iintro Ho H
  iapply (step_sig A K c 2 (by decide) 32 rfl _ (dev_eq c 2 _ (k0_dev3_eq c))) $$ Hc Ho H
  iintro Ho H
  iapply (step_sig A K c 3 (by decide) 31 rfl _ (dev_eq c 3 _ (k0_dev4_eq c))) $$ Hc Ho H
  iintro Ho H
  iapply (step_sig A K c 4 (by decide) 30 rfl _ (dev_eq c 4 _ (k0_dev5_eq c))) $$ Hc Ho H
  iintro Ho H
  iapply run_ret
  iapply Hk $$ Ho H

theorem part2 {Q} (w w' w'' : BitVec 32) : ctx A K ⊢ iprop(ow c 30 -∗ SIG c 5 -∗ hold c cc0_stg0_0 (A.x c) -∗ hold c cc0_stg1_0 (A.wq c) -∗ KV A c -∗ oPt A c 0 0
    -∗ (ow c 28 -∗ SIG c 7 -∗ hold c cc0_stg0_0 (A.x c) -∗ hold c cc0_stg1_0 (A.wq c) -∗ KV A c -∗ oPt A c 0 1
      -∗ Q ⟨A.q c, half (A.q c) 0, k0_pay5 (A.x c) (A.wq c)⟩) -∗ run c (app (k0_part2 (F := F)) c w barA w' w'') Q) := by
  unfold app
  rw [k0_part2_eq_skeleton]
  unfold k0_part2_skel
  simp only [semSignalWord, Prog.lift, Prog.bind_op, Prog.bind_ret, Prog.pure_eq_ret]
  iintro #Hc Ho H Hx Hq HK HO Hk
  iapply (step_sig A K c 5 (by decide) 29 rfl _ (dev_eq c 5 _ (k0_dev6_eq c))) $$ Hc Ho H
  iintro Ho H
  iapply (step_sig A K c 6 (by decide) 28 rfl _ (dev_eq c 6 _ (k0_dev7_eq c))) $$ Hc Ho H
  iintro Ho H
  iapply (run_load_x c _) $$ Hx
  iintro Hx
  iapply (run_load_wq c _) $$ Hq
  iintro Hq
  iapply (step_head A c 0 0 (by decide) (k0_pay4 (A.x c) (A.wq c)) rfl rfl) $$ HK HO
  iintro HK HO
  rw [show k0_pay2 (A.x c) (A.wq c) = A.q c from rfl, show k0_pay3 (A.x c) (A.wq c) = half (A.q c) 0 from rfl]
  iapply run_ret
  iapply Hk $$ Ho H Hx Hq HK HO

theorem part3 {Q} : ctx A K ⊢ iprop(KV A c -∗ oPt A c 0 1 -∗ (KV A c -∗ oPt A c 0 3 -∗ Q ⟨k0_pay8 (half (A.q c) 0), k0_pay9 (col (A.k c) ⟨3, by decide⟩)⟩)
    -∗ run c (app (k0_part3 (F := F)) (half (A.q c) 0) (k0_pay5 (A.x c) (A.wq c))) Q) := by
  unfold app
  rw [k0_part3_eq_skeleton]
  unfold k0_part3_skel
  simp only [Prog.lift, Prog.bind_op, Prog.bind_ret, Prog.pure_eq_ret]
  iintro #Hc HK HO Hk
  iapply (step_head A c 0 1 (by decide) (k0_pay6 (k0_pay5 (A.x c) (A.wq c))) rfl rfl) $$ HK HO
  iintro HK HO
  iapply (step_head A c 0 2 (by decide) (k0_pay7 (half (A.q c) 0)) rfl rfl) $$ HK HO
  iintro HK HO
  iapply (step_k A c 3 (by decide) rfl) $$ HK
  iintro HK
  iapply run_ret
  iapply Hk $$ HK HO

theorem part4 {Q} : ctx A K ⊢ iprop(KV A c -∗ oPt A c 0 3 -∗ (KV A c -∗ oPt A c 0 5 -∗ Q (k0_pay12 (half (A.q c) 0) (col (A.k c) ⟨5, by decide⟩)))
    -∗ run c (app (k0_part4 (F := F)) (half (A.q c) 0) (k0_pay8 (half (A.q c) 0)) (k0_pay9 (col (A.k c) ⟨3, by decide⟩))) Q) := by
  unfold app
  rw [k0_part4_eq_skeleton]
  unfold k0_part4_skel
  simp only [Prog.lift, Prog.bind_op, Prog.bind_ret, Prog.pure_eq_ret]
  iintro #Hc HK HO Hk
  iapply (step_v A c 3 (by decide) rfl) $$ HK
  iintro HK
  iapply (step_put A c 0 3 (by decide) _ rfl rfl) $$ HO
  iintro HO
  iapply (step_head A c 0 4 (by decide) (k0_pay11 (half (A.q c) 0)) rfl rfl) $$ HK HO
  iintro HK HO
  iapply (step_k A c 5 (by decide) rfl) $$ HK
  iintro HK
  iapply run_ret
  iapply Hk $$ HK HO

theorem part5 {Q} : ctx A K ⊢ iprop(KV A c -∗ oPt A c 0 5 -∗ (KV A c -∗ oPt A c 0 7
      -∗ Q ⟨k0_pay15 (half (A.q c) 0) (col (A.k c) ⟨7, by decide⟩), k0_pay16 (half (A.q c) 0) (col (A.k c) ⟨7, by decide⟩)⟩)
    -∗ run c (app (k0_part5 (F := F)) (half (A.q c) 0) (k0_pay12 (half (A.q c) 0) (col (A.k c) ⟨5, by decide⟩))) Q) := by
  unfold app
  rw [k0_part5_eq_skeleton]
  unfold k0_part5_skel
  simp only [Prog.lift, Prog.bind_op, Prog.bind_ret, Prog.pure_eq_ret]
  iintro #Hc HK HO Hk
  iapply (step_v A c 5 (by decide) rfl) $$ HK
  iintro HK
  iapply (step_put A c 0 5 (by decide) _ rfl rfl) $$ HO
  iintro HO
  iapply (step_head A c 0 6 (by decide) (k0_pay14 (half (A.q c) 0)) rfl rfl) $$ HK HO
  iintro HK HO
  iapply (step_k A c 7 (by decide) rfl) $$ HK
  iintro HK
  iapply run_ret
  iapply Hk $$ HK HO

theorem part6 {Q} : ctx A K ⊢ iprop(KV A c -∗ oPt A c 0 7 -∗ hold c cc0_stg2_0 (A.wo c) -∗ CH A c 0 0 -∗ (KV A c -∗ oPt A c 0 8 -∗ hold c cc0_stg2_0 (A.wo c) -∗ CH A c 0 3
      -∗ Q ⟨k0_pay18 (A.o 0 c) (A.wo c), k0_pay22 (A.o 0 c) (A.wo c)⟩)
    -∗ run c (app (k0_part6 (F := F)) (k0_pay15 (half (A.q c) 0) (col (A.k c) ⟨7, by decide⟩)) (k0_pay16 (half (A.q c) 0) (col (A.k c) ⟨7, by decide⟩))) Q) := by
  unfold app
  rw [k0_part6_eq_skeleton]
  unfold k0_part6_skel
  simp only [Prog.lift, Prog.bind_op, Prog.bind_ret, Prog.pure_eq_ret]
  iintro #Hc HK HO HW H Hk
  iapply (step_v A c 7 (by decide) rfl) $$ HK
  iintro HK
  iapply (step_put A c 0 7 (by decide) _ rfl rfl) $$ HO
  iintro HO
  iapply (run_load_o8 A c 0 _) $$ HO
  iintro HO
  iapply (run_load_wo c _) $$ HW
  iintro HW
  iapply (step_ch A c 0 0 (by decide) rfl rfl) $$ H
  iintro H
  iapply (step_ch A c 0 1 (by decide) rfl rfl) $$ H
  iintro H
  iapply (step_ch A c 0 2 (by decide) rfl rfl) $$ H
  iintro H
  iapply (step_ch_load A c 0 3 (by decide) rfl) $$ H
  iintro H %x
  iapply run_ret
  iapply Hk $$ HK HO HW H

theorem part7 {Q} (w : BitVec 32) : ctx A K ⊢ iprop(ow c 28 -∗ CH A c 0 3 -∗ (cred (tallyAt (barCell c) () 7) ∗ atPos ER (barCell c) 0 ∅ 0)
    -∗ (∀ r, ow c 28 -∗ CH A c 0 8 -∗ (semVal (barCell c) 0 ∗ bigSep Finset.univ (barPay c)) -∗ Q r)
    -∗ run c (app (k0_part7 (F := F)) w barA (k0_pay18 (A.o 0 c) (A.wo c)) (k0_pay22 (A.o 0 c) (A.wo c))) Q) := by
  unfold app
  rw [k0_part7_eq_skeleton]
  unfold k0_part7_skel
  simp only [semWaitWord, Prog.lift, Prog.bind_op, Prog.bind_ret, Prog.pure_eq_ret]
  iintro #Hc Ho H HB Hk
  icases HB with ⟨H1, H2⟩
  iapply (step_ch_store A c 0 3 (by decide) rfl rfl) $$ H
  iintro H
  iapply (step_ch A c 0 4 (by decide) rfl rfl) $$ H
  iintro H
  iapply (step_ch A c 0 5 (by decide) rfl rfl) $$ H
  iintro H
  iapply (step_ch A c 0 6 (by decide) rfl rfl) $$ H
  iintro H
  iapply (step_ch A c 0 7 (by decide) rfl rfl) $$ H
  iintro H
  iapply (run_wait_bar A K c) $$ [Ho H1 H2]
  · isplitr; · iexact Hc
    isplitl [H1]; · iexact H1
    isplitl [Ho]; · iexact Ho
    iexact H2
  iintro ⟨Ho, HB⟩
  iapply run_ret
  iapply Hk $$ Ho H HB

theorem part8 {Q} (w : BitVec 32) : ctx A K ⊢ iprop(ow c 28 -∗ SC A c 0 0 -∗ (∀ r, ow c 26 -∗ SC A c 0 2 -∗ Q r)
    -∗ run c (app (k0_part8 (F := F)) c w) Q) := by
  unfold app
  rw [k0_part8_eq_skeleton]
  unfold k0_part8_skel
  simp only [Prog.lift, Prog.bind_op, Prog.bind_ret, Prog.pure_eq_ret]
  iintro #Hc Ho H Hk
  iapply (step_sc A K c 0 rfl 0 (by decide) 27 rfl _ (dev_eq c 0 _ (k0_dev8_eq c)) (k0_off1_eq c 0) rfl _ _ (sendS_eq 0 _) (recvS_eq 6 _)) $$ Hc Ho H
  iintro Ho H
  iapply (step_sc A K c 0 rfl 1 (by decide) 26 rfl _ (dev_eq c 1 _ (k0_dev9_eq c)) (k0_off1_eq c 1) rfl _ _ (sendS_eq 1 _) (recvS_eq 5 _)) $$ Hc Ho H
  iintro Ho H
  iapply run_ret
  iapply Hk $$ Ho H

theorem part9 {Q} (w : BitVec 32) : ctx A K ⊢ iprop(ow c 26 -∗ SC A c 0 2 -∗ (∀ r, ow c 23 -∗ SC A c 0 5 -∗ Q r)
    -∗ run c (app (k0_part9 (F := F)) c w) Q) := by
  unfold app
  rw [k0_part9_eq_skeleton]
  unfold k0_part9_skel
  simp only [Prog.lift, Prog.bind_op, Prog.bind_ret, Prog.pure_eq_ret]
  iintro #Hc Ho H Hk
  iapply (step_sc A K c 0 rfl 2 (by decide) 25 rfl _ (dev_eq c 2 _ (k0_dev10_eq c)) (k0_off1_eq c 2) rfl _ _ (sendS_eq 2 _) (recvS_eq 4 _)) $$ Hc Ho H
  iintro Ho H
  iapply (step_sc A K c 0 rfl 3 (by decide) 24 rfl _ (dev_eq c 3 _ (k0_dev11_eq c)) (k0_off1_eq c 3) rfl _ _ (sendS_eq 3 _) (recvS_eq 3 _)) $$ Hc Ho H
  iintro Ho H
  iapply (step_sc A K c 0 rfl 4 (by decide) 23 rfl _ (dev_eq c 4 _ (k0_dev12_eq c)) (k0_off1_eq c 4) rfl _ _ (sendS_eq 4 _) (recvS_eq 2 _)) $$ Hc Ho H
  iintro Ho H
  iapply run_ret
  iapply Hk $$ Ho H

theorem part10 {Q} (w w' : BitVec 32) : ctx A K ⊢ iprop(ow c 23 -∗ SC A c 0 5 -∗ KV A c -∗ (∀ r, ow c 21 -∗ SC A c 0 7 -∗ KV A c
      -∗ Q ⟨r, half (A.q c) 1, k0_pay28 (A.q c) (col (A.k c) ⟨0, by decide⟩), k0_pay29 (A.q c) (col (A.k c) ⟨0, by decide⟩)⟩)
    -∗ run c (app (k0_part10 (F := F)) c w (A.q c) w') Q) := by
  unfold app
  rw [k0_part10_eq_skeleton]
  unfold k0_part10_skel
  simp only [Prog.lift, Prog.bind_op, Prog.bind_ret, Prog.pure_eq_ret]
  iintro #Hc Ho H HK Hk
  iapply (step_sc A K c 0 rfl 5 (by decide) 22 rfl _ (dev_eq c 5 _ (k0_dev13_eq c)) (k0_off1_eq c 5) rfl _ _ (sendS_eq 5 _) (recvS_eq 1 _)) $$ Hc Ho H
  iintro Ho H
  iapply (step_sc A K c 0 rfl 6 (by decide) 21 rfl _ (dev_eq c 6 _ (k0_dev14_eq c)) (k0_off1_eq c 6) rfl _ _ (sendS_eq 6 _) (recvS_eq 0 _)) $$ Hc Ho H
  iintro Ho H
  iapply (step_k A c 0 (by decide) rfl) $$ HK
  iintro HK
  rw [show k0_pay27 (A.q c) = half (A.q c) 1 from rfl]
  iapply run_ret
  iapply Hk $$ Ho H HK

theorem part11 {Q} : ctx A K ⊢ iprop(KV A c -∗ oPt A c 1 0 -∗ (KV A c -∗ oPt A c 1 2
      -∗ Q ⟨k0_pay32 (half (A.q c) 1) (col (A.k c) ⟨2, by decide⟩), k0_pay33 (half (A.q c) 1) (col (A.k c) ⟨2, by decide⟩), col (A.v c) ⟨2, by decide⟩⟩)
    -∗ run c (app (k0_part11 (F := F)) (half (A.q c) 1) (k0_pay28 (A.q c) (col (A.k c) ⟨0, by decide⟩)) (k0_pay29 (A.q c) (col (A.k c) ⟨0, by decide⟩))) Q) := by
  unfold app
  rw [k0_part11_eq_skeleton]
  unfold k0_part11_skel
  simp only [Prog.lift, Prog.bind_op, Prog.bind_ret, Prog.pure_eq_ret]
  iintro #Hc HK HO Hk
  iapply (step_v A c 0 (by decide) rfl) $$ HK
  iintro HK
  iapply (step_put A c 1 0 (by decide) _ rfl rfl) $$ HO
  iintro HO
  iapply (step_head A c 1 1 (by decide) (k0_pay31 (half (A.q c) 1)) rfl rfl) $$ HK HO
  iintro HK HO
  iapply (step_k A c 2 (by decide) rfl) $$ HK
  iintro HK
  iapply (step_v A c 2 (by decide) rfl) $$ HK
  iintro HK
  iapply run_ret
  iapply Hk $$ HK HO

theorem part12 {Q} : ctx A K ⊢ iprop(ow c 21 -∗ SW A c 0 0 -∗ KV A c -∗ oPt A c 1 2 -∗ (ow c 21 -∗ SW A c 0 1 -∗ KV A c -∗ oPt A c 1 4 -∗ Q ⟨⟩)
    -∗ run c (app (k0_part12 (F := F)) c (half (A.q c) 1) (k0_pay32 (half (A.q c) 1) (col (A.k c) ⟨2, by decide⟩))
      (k0_pay33 (half (A.q c) 1) (col (A.k c) ⟨2, by decide⟩)) (col (A.v c) ⟨2, by decide⟩)) Q) := by
  unfold app
  rw [k0_part12_eq_skeleton]
  unfold k0_part12_skel
  simp only [Prog.lift, Prog.bind_op, Prog.bind_ret, Prog.pure_eq_ret]
  iintro #Hc Ho HS HK HO Hk
  iapply (step_put A c 1 2 (by decide) _ rfl rfl) $$ HO
  iintro HO
  iapply (step_head A c 1 3 (by decide) (k0_pay35 (half (A.q c) 1)) rfl rfl) $$ HK HO
  iintro HK HO
  iapply (step_sw A K c 0 0 (by decide) 21 _ (sendS_eq 0 _) rfl) $$ Hc Ho HS
  iintro Ho HS
  iapply run_ret
  iapply Hk $$ Ho HS HK HO

theorem part13 {Q} (w w' : BitVec 32) : ctx A K ⊢ iprop(ow c 21 -∗ SW A c 0 1 -∗ RW A c 0 0 -∗ (ow c 21 -∗ SW A c 0 2 -∗ RW A c 0 2 -∗ Q ⟨⟩)
    -∗ run c (app (k0_part13 (F := F)) c w w') Q) := by
  unfold app
  rw [k0_part13_eq_skeleton]
  unfold k0_part13_skel
  simp only [Prog.lift, Prog.bind_op, Prog.bind_ret, Prog.pure_eq_ret]
  iintro #Hc Ho HS HR Hk
  iapply (step_rw A K c 0 0 (by decide) 21 (by decide) _ (recvS_eq 6 _) rfl) $$ Hc Ho HR
  iintro Ho HR
  iapply (step_sw A K c 0 1 (by decide) 21 _ (sendS_eq 1 _) rfl) $$ Hc Ho HS
  iintro Ho HS
  iapply (step_rw A K c 0 1 (by decide) 21 (by decide) _ (recvS_eq 5 _) rfl) $$ Hc Ho HR
  iintro Ho HR
  iapply run_ret
  iapply Hk $$ Ho HS HR

theorem part14 {Q} (w w' : BitVec 32) : ctx A K ⊢ iprop(ow c 21 -∗ SW A c 0 2 -∗ RW A c 0 2 -∗ (ow c 21 -∗ SW A c 0 4 -∗ RW A c 0 3 -∗ Q ⟨⟩)
    -∗ run c (app (k0_part14 (F := F)) c w w') Q) := by
  unfold app
  rw [k0_part14_eq_skeleton]
  unfold k0_part14_skel
  simp only [Prog.lift, Prog.bind_op, Prog.bind_ret, Prog.pure_eq_ret]
  iintro #Hc Ho HS HR Hk
  iapply (step_sw A K c 0 2 (by decide) 21 _ (sendS_eq 2 _) rfl) $$ Hc Ho HS
  iintro Ho HS
  iapply (step_rw A K c 0 2 (by decide) 21 (by decide) _ (recvS_eq 4 _) rfl) $$ Hc Ho HR
  iintro Ho HR
  iapply (step_sw A K c 0 3 (by decide) 21 _ (sendS_eq 3 _) rfl) $$ Hc Ho HS
  iintro Ho HS
  iapply run_ret
  iapply Hk $$ Ho HS HR

theorem part15 {Q} (w : BitVec 32) : ctx A K ⊢ iprop(ow c 21 -∗ SW A c 0 4 -∗ RW A c 0 3 -∗ (ow c 21 -∗ SW A c 0 5 -∗ RW A c 0 5 -∗ Q ⟨⟩)
    -∗ run c (app (k0_part15 (F := F)) c w) Q) := by
  unfold app
  rw [k0_part15_eq_skeleton]
  unfold k0_part15_skel
  simp only [Prog.lift, Prog.bind_op, Prog.bind_ret, Prog.pure_eq_ret]
  iintro #Hc Ho HS HR Hk
  iapply (step_rw A K c 0 3 (by decide) 21 (by decide) _ (recvS_eq 3 _) rfl) $$ Hc Ho HR
  iintro Ho HR
  iapply (step_sw A K c 0 4 (by decide) 21 _ (sendS_eq 4 _) rfl) $$ Hc Ho HS
  iintro Ho HS
  iapply (step_rw A K c 0 4 (by decide) 21 (by decide) _ (recvS_eq 2 _) rfl) $$ Hc Ho HR
  iintro Ho HR
  iapply run_ret
  iapply Hk $$ Ho HS HR

theorem part16 {Q} (w w' w'' : BitVec 32) : ctx A K ⊢ iprop(ow c 21 -∗ SW A c 0 5 -∗ RW A c 0 5 -∗ (ow c 21 -∗ SW A c 0 7 -∗ RW A c 0 7 -∗ Q ⟨⟩)
    -∗ run c (app (k0_part16 (F := F)) c w w' w'') Q) := by
  unfold app
  rw [k0_part16_eq_skeleton]
  unfold k0_part16_skel
  simp only [Prog.lift, Prog.bind_op, Prog.bind_ret, Prog.pure_eq_ret]
  iintro #Hc Ho HS HR Hk
  iapply (step_sw A K c 0 5 (by decide) 21 _ (sendS_eq 5 _) rfl) $$ Hc Ho HS
  iintro Ho HS
  iapply (step_rw A K c 0 5 (by decide) 21 (by decide) _ (recvS_eq 1 _) rfl) $$ Hc Ho HR
  iintro Ho HR
  iapply (step_sw A K c 0 6 (by decide) 21 _ (sendS_eq 6 _) rfl) $$ Hc Ho HS
  iintro Ho HS
  iapply (step_rw A K c 0 6 (by decide) 21 (by decide) _ (recvS_eq 0 _) rfl) $$ Hc Ho HR
  iintro Ho HR
  iapply run_ret
  iapply Hk $$ Ho HS HR

end Cert.Attn
end
-- ==== Proof.Parts2.lean ====
/-
The body's stretches of the first half's sum and the second half's heads.
-/
module

public import proofs.«01_k».proof.Proof.Parts1

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A : Inp F) (K : Dev nD × CI → ℕ) (c : Dev nD)

theorem part17 {Q} : ctx A K ⊢ iprop(cPt c (0 : Fin 2).val c.val fullShare (A.part 0 c c) -∗ SL A c 0 -∗ (cPt c (0 : Fin 2).val c.val fullShare (A.part 0 c c) -∗ SL A c 0 -∗ Q ⟨(k0_pay36 (A.part 0 c c) (A.part 0 (up c ⟨0, by decide⟩) c) (A.part 0 (up c ⟨1, by decide⟩) c) (A.part 0 (up c ⟨2, by decide⟩) c) (A.part 0 (up c ⟨3, by decide⟩) c)
      (A.part 0 (up c ⟨4, by decide⟩) c) (A.part 0 (up c ⟨5, by decide⟩) c)), (k0_pay37 (A.part 0 (up c ⟨6, by decide⟩) c))⟩)
    -∗ run c (app (k0_part17 (F := F)) c) Q) := by
  unfold app
  rw [k0_part17_eq_skeleton]
  unfold k0_part17_skel
  simp only [Prog.lift, Prog.bind_op, Prog.bind_ret, Prog.pure_eq_ret]
  iintro #Hc H HL Hk
  iapply (step_own_load c 0 fullShare (k0_off2_eq c)) $$ H
  iintro H
  iapply (step_sl A c 0 0 (by decide) rfl) $$ HL
  iintro HL
  iapply (step_sl A c 0 1 (by decide) rfl) $$ HL
  iintro HL
  iapply (step_sl A c 0 2 (by decide) rfl) $$ HL
  iintro HL
  iapply (step_sl A c 0 3 (by decide) rfl) $$ HL
  iintro HL
  iapply (step_sl A c 0 4 (by decide) rfl) $$ HL
  iintro HL
  iapply (step_sl A c 0 5 (by decide) rfl) $$ HL
  iintro HL
  iapply (step_sl A c 0 6 (by decide) rfl) $$ HL
  iintro HL
  iapply run_ret
  iapply Hk $$ H HL

theorem part18 {Q} (w0 : BitVec 32) : ctx A K ⊢ iprop(ow c 21 -∗ cPt c (0 : Fin 2).val c.val fullShare (A.part 0 c c) -∗ GT c 1 -∗ (∀ r, ow c 19 -∗ GA A c 1 2 -∗ Q r)
    -∗ run c (app (k0_part18 (F := F)) c w0
      (k0_pay36 (A.part 0 c c) (A.part 0 (up c ⟨0, by decide⟩) c) (A.part 0 (up c ⟨1, by decide⟩) c) (A.part 0 (up c ⟨2, by decide⟩) c) (A.part 0 (up c ⟨3, by decide⟩) c)
      (A.part 0 (up c ⟨4, by decide⟩) c) (A.part 0 (up c ⟨5, by decide⟩) c))
      (k0_pay37 (A.part 0 (up c ⟨6, by decide⟩) c))) Q) := by
  unfold app
  rw [k0_part18_eq_skeleton]
  unfold k0_part18_skel
  simp only [Prog.lift, Prog.bind_op, Prog.bind_ret, Prog.pure_eq_ret]
  iintro #Hc Ho H HT Hk
  iapply (step_own_load c 0 fullShare (k0_off2_eq c)) $$ H
  iintro H
  ihave H := (cPt_any c _ _ _) $$ H
  iapply (run_store_c (hh := (0 : Fin 2).val) c (k0_off2_eq c) _) $$ H
  iintro H
  rw [show k0_pay38 (k0_pay36 (A.part 0 c c) (A.part 0 (up c ⟨0, by decide⟩) c) (A.part 0 (up c ⟨1, by decide⟩) c) (A.part 0 (up c ⟨2, by decide⟩) c) (A.part 0 (up c ⟨3, by decide⟩) c) (A.part 0 (up c ⟨4, by decide⟩) c) (A.part 0 (up c ⟨5, by decide⟩) c)) (k0_pay37 (A.part 0 (up c ⟨6, by decide⟩) c)) = A.red 0 c from rfl]
  ihave H := (ga_start A c 1 0 rfl) $$ H HT
  iapply (step_ga A K c 1 rfl 0 (by decide) 20 rfl _ (dev_eq c 0 _ (k0_dev15_eq c)) (k0_off3_eq c) _ _ (sendS_eq 7 _) (recvS_eq 13 _)) $$ Hc Ho H
  iintro Ho H
  iapply (step_ga A K c 1 rfl 1 (by decide) 19 rfl _ (dev_eq c 1 _ (k0_dev16_eq c)) (k0_off3_eq c) _ _ (sendS_eq 8 _) (recvS_eq 12 _)) $$ Hc Ho H
  iintro Ho H
  iapply run_ret
  iapply Hk $$ Ho H

theorem part19 {Q} (w0 : BitVec 32) : ctx A K ⊢ iprop(ow c 19 -∗ GA A c 1 2 -∗ (∀ r, ow c 17 -∗ GA A c 1 4 -∗ Q r)
    -∗ run c (app (k0_part19 (F := F)) c w0) Q) := by
  unfold app
  rw [k0_part19_eq_skeleton]
  unfold k0_part19_skel
  simp only [Prog.lift, Prog.bind_op, Prog.bind_ret, Prog.pure_eq_ret]
  iintro #Hc Ho H Hk
  iapply (step_ga A K c 1 rfl 2 (by decide) 18 rfl _ (dev_eq c 2 _ (k0_dev17_eq c)) (k0_off3_eq c) _ _ (sendS_eq 9 _) (recvS_eq 11 _)) $$ Hc Ho H
  iintro Ho H
  iapply (step_ga A K c 1 rfl 3 (by decide) 17 rfl _ (dev_eq c 3 _ (k0_dev18_eq c)) (k0_off3_eq c) _ _ (sendS_eq 10 _) (recvS_eq 10 _)) $$ Hc Ho H
  iintro Ho H
  iapply run_ret
  iapply Hk $$ Ho H

theorem part20 {Q} (w0 w1 : BitVec 32) : ctx A K ⊢ iprop(ow c 17 -∗ GA A c 1 4 -∗ (∀ r, ow c 15 -∗ GA A c 1 6 -∗ Q r)
    -∗ run c (app (k0_part20 (F := F)) c w0 w1) Q) := by
  unfold app
  rw [k0_part20_eq_skeleton]
  unfold k0_part20_skel
  simp only [Prog.lift, Prog.bind_op, Prog.bind_ret, Prog.pure_eq_ret]
  iintro #Hc Ho H Hk
  iapply (step_ga A K c 1 rfl 4 (by decide) 16 rfl _ (dev_eq c 4 _ (k0_dev19_eq c)) (k0_off3_eq c) _ _ (sendS_eq 11 _) (recvS_eq 9 _)) $$ Hc Ho H
  iintro Ho H
  iapply (step_ga A K c 1 rfl 5 (by decide) 15 rfl _ (dev_eq c 5 _ (k0_dev20_eq c)) (k0_off3_eq c) _ _ (sendS_eq 12 _) (recvS_eq 8 _)) $$ Hc Ho H
  iintro Ho H
  iapply run_ret
  iapply Hk $$ Ho H

theorem part21 {Q} : ctx A K ⊢ iprop(ow c 15 -∗ GA A c 1 6 -∗ KV A c -∗ oPt A c 1 4 -∗ (ow c 14 -∗ GA A c 1 7 -∗ KV A c -∗ oPt A c 1 5 -∗ Q (k0_pay40 (half (A.q c) 1) (col (A.k c) ⟨5, by decide⟩) (col (A.v c) ⟨5, by decide⟩)))
    -∗ run c (app (k0_part21 (F := F)) c (half (A.q c) 1)) Q) := by
  unfold app
  rw [k0_part21_eq_skeleton]
  unfold k0_part21_skel
  simp only [Prog.lift, Prog.bind_op, Prog.bind_ret, Prog.pure_eq_ret]
  iintro #Hc Ho H HK HO Hk
  iapply (step_ga A K c 1 rfl 6 (by decide) 14 rfl _ (dev_eq c 6 _ (k0_dev21_eq c)) (k0_off3_eq c) _ _ (sendS_eq 13 _) (recvS_eq 7 _)) $$ Hc Ho H
  iintro Ho H
  iapply (step_head A c 1 4 (by decide) (k0_pay39 (half (A.q c) 1)) rfl rfl) $$ HK HO
  iintro HK HO
  iapply (step_k A c 5 (by decide) rfl) $$ HK
  iintro HK
  iapply (step_v A c 5 (by decide) rfl) $$ HK
  iintro HK
  iapply (run_load_o A c 1 5) $$ HO
  iintro HO %x
  iapply run_ret
  iapply Hk $$ Ho H HK HO

theorem part22 {Q} : ctx A K ⊢ iprop(KV A c -∗ oPt A c 1 5 -∗ (KV A c -∗ oPt A c 1 8 -∗ Q (A.o 1 c))
    -∗ run c (app (k0_part22 (F := F)) (half (A.q c) 1) (k0_pay40 (half (A.q c) 1) (col (A.k c) ⟨5, by decide⟩) (col (A.v c) ⟨5, by decide⟩))) Q) := by
  unfold app
  rw [k0_part22_eq_skeleton]
  unfold k0_part22_skel
  simp only [Prog.lift, Prog.bind_op, Prog.bind_ret, Prog.pure_eq_ret]
  iintro #Hc HK HO Hk
  iapply (run_store_o A c 1 ⟨5, by decide⟩ rfl _ _ rfl) $$ HO
  iintro HO
  iapply (step_head A c 1 6 (by decide) (k0_pay41 (half (A.q c) 1)) rfl rfl) $$ HK HO
  iintro HK HO
  iapply (step_head A c 1 7 (by decide) (k0_pay42 (half (A.q c) 1)) rfl rfl) $$ HK HO
  iintro HK HO
  iapply (run_load_o8 A c 1 _) $$ HO
  iintro HO
  iapply run_ret
  iapply Hk $$ HK HO

theorem part23 {Q} : ctx A K ⊢ iprop(hold c cc0_stg2_0 (A.wo c) -∗ CH A c 1 0 -∗ (hold c cc0_stg2_0 (A.wo c) -∗ CH A c 1 5 -∗ Q ⟨k0_pay43 (A.o 1 c) (A.wo c), k0_pay49 (A.o 1 c) (A.wo c)⟩)
    -∗ run c (app (k0_part23 (F := F)) (A.o 1 c)) Q) := by
  unfold app
  rw [k0_part23_eq_skeleton]
  unfold k0_part23_skel
  simp only [Prog.lift, Prog.bind_op, Prog.bind_ret, Prog.pure_eq_ret]
  iintro #Hc HW H Hk
  iapply (run_load_wo c _) $$ HW
  iintro HW
  iapply (step_ch A c 1 0 (by decide) rfl rfl) $$ H
  iintro H
  iapply (step_ch A c 1 1 (by decide) rfl rfl) $$ H
  iintro H
  iapply (step_ch A c 1 2 (by decide) rfl rfl) $$ H
  iintro H
  iapply (step_ch A c 1 3 (by decide) rfl rfl) $$ H
  iintro H
  iapply (step_ch A c 1 4 (by decide) rfl rfl) $$ H
  iintro H
  iapply run_ret
  iapply Hk $$ HW H

end Cert.Attn
end
-- ==== Proof.Parts3.lean ====
/-
The body's stretches from the second half's scatter stage to the end.
-/
module

public import proofs.«01_k».proof.Proof.Parts2

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (A : Inp F) (K : Dev nD × CI → ℕ) (c : Dev nD)

theorem part24 {Q} (w0 : BitVec 32) : ctx A K ⊢ iprop(ow c 14 -∗ CH A c 1 5 -∗ ST c 2 -∗ (∀ r, ow c 13 -∗ cPt c (1 : Fin 2).val c.val fullShare (A.part 1 c c) -∗ SC A c 2 1 -∗ Q r)
    -∗ run c (app (k0_part24 (F := F)) c w0 (k0_pay43 (A.o 1 c) (A.wo c)) (k0_pay49 (A.o 1 c) (A.wo c))) Q) := by
  unfold app
  rw [k0_part24_eq_skeleton]
  unfold k0_part24_skel
  simp only [Prog.lift, Prog.bind_op, Prog.bind_ret, Prog.pure_eq_ret]
  iintro #Hc Ho H HT Hk
  iapply (step_ch A c 1 5 (by decide) rfl rfl) $$ H
  iintro H
  iapply (step_ch A c 1 6 (by decide) rfl rfl) $$ H
  iintro H
  iapply (step_ch A c 1 7 (by decide) rfl rfl) $$ H
  iintro H
  ihave H := (sc_start A c 2 1 rfl) $$ H HT
  icases H with ⟨HG, H⟩
  iapply (step_sc A K c 2 rfl 0 (by decide) 13 rfl _ (dev_eq c 0 _ (k0_dev22_eq c)) (k0_off4_eq c 0) rfl _ _ (sendS_eq 14 _) (recvS_eq 20 _)) $$ Hc Ho H
  iintro Ho H
  iapply run_ret
  iapply Hk $$ Ho HG H

theorem part25 {Q} (w0 w1 : BitVec 32) : ctx A K ⊢ iprop(ow c 13 -∗ SC A c 2 1 -∗ (∀ r, ow c 11 -∗ SC A c 2 3 -∗ Q r)
    -∗ run c (app (k0_part25 (F := F)) c w0 w1) Q) := by
  unfold app
  rw [k0_part25_eq_skeleton]
  unfold k0_part25_skel
  simp only [Prog.lift, Prog.bind_op, Prog.bind_ret, Prog.pure_eq_ret]
  iintro #Hc Ho H Hk
  iapply (step_sc A K c 2 rfl 1 (by decide) 12 rfl _ (dev_eq c 1 _ (k0_dev23_eq c)) (k0_off4_eq c 1) rfl _ _ (sendS_eq 15 _) (recvS_eq 19 _)) $$ Hc Ho H
  iintro Ho H
  iapply (step_sc A K c 2 rfl 2 (by decide) 11 rfl _ (dev_eq c 2 _ (k0_dev24_eq c)) (k0_off4_eq c 2) rfl _ _ (sendS_eq 16 _) (recvS_eq 18 _)) $$ Hc Ho H
  iintro Ho H
  iapply run_ret
  iapply Hk $$ Ho H

theorem part26 {Q} (w0 : BitVec 32) : ctx A K ⊢ iprop(ow c 11 -∗ SC A c 2 3 -∗ (∀ r, ow c 9 -∗ SC A c 2 5 -∗ Q r)
    -∗ run c (app (k0_part26 (F := F)) c w0) Q) := by
  unfold app
  rw [k0_part26_eq_skeleton]
  unfold k0_part26_skel
  simp only [Prog.lift, Prog.bind_op, Prog.bind_ret, Prog.pure_eq_ret]
  iintro #Hc Ho H Hk
  iapply (step_sc A K c 2 rfl 3 (by decide) 10 rfl _ (dev_eq c 3 _ (k0_dev25_eq c)) (k0_off4_eq c 3) rfl _ _ (sendS_eq 17 _) (recvS_eq 17 _)) $$ Hc Ho H
  iintro Ho H
  iapply (step_sc A K c 2 rfl 4 (by decide) 9 rfl _ (dev_eq c 4 _ (k0_dev26_eq c)) (k0_off4_eq c 4) rfl _ _ (sendS_eq 18 _) (recvS_eq 16 _)) $$ Hc Ho H
  iintro Ho H
  iapply run_ret
  iapply Hk $$ Ho H

theorem part27 {Q} (w0 : BitVec 32) : ctx A K ⊢ iprop(ow c 9 -∗ SC A c 2 5 -∗ cPt c (0 : Fin 2).val c.val (keep 7) (A.red 0 c) -∗ outPt A c 0 -∗ SW A c 1 0 -∗ (∀ r, ow c 7 -∗ SC A c 2 7 -∗ cPt c (0 : Fin 2).val c.val (keep 7) (A.red 0 c) -∗ outPt A c 1 -∗ SW A c 1 1 -∗ Q r)
    -∗ run c (app (k0_part27 (F := F)) c w0) Q) := by
  unfold app
  rw [k0_part27_eq_skeleton]
  unfold k0_part27_skel
  simp only [Prog.lift, Prog.bind_op, Prog.bind_ret, Prog.pure_eq_ret]
  iintro #Hc Ho H HG HU HS Hk
  iapply (step_sc A K c 2 rfl 5 (by decide) 8 rfl _ (dev_eq c 5 _ (k0_dev27_eq c)) (k0_off4_eq c 5) rfl _ _ (sendS_eq 19 _) (recvS_eq 15 _)) $$ Hc Ho H
  iintro Ho H
  iapply (step_sc A K c 2 rfl 6 (by decide) 7 rfl _ (dev_eq c 6 _ (k0_dev28_eq c)) (k0_off4_eq c 6) rfl _ _ (sendS_eq 20 _) (recvS_eq 14 _)) $$ Hc Ho H
  iintro Ho H
  iapply (step_out_own A c 0 0 rfl (keep 7) (k0_off2_eq c) (p := k0_pay53) rfl) $$ HG HU
  iintro HG HU
  iapply (step_sw A K c 1 0 (by decide) 7 _ (sendS_eq 7 _) rfl) $$ Hc Ho HS
  iintro Ho HS
  iapply run_ret
  iapply Hk $$ Ho H HG HU HS

theorem part28 {Q} (w0 w1 : BitVec 32) : ctx A K ⊢ iprop(ow c 7 -∗ RW A c 1 0 -∗ outPt A c 1 -∗ SW A c 1 1 -∗ (∀ r, ow c 7 -∗ RW A c 1 1 -∗ outPt A c 2 -∗ SW A c 1 2 -∗ Q r)
    -∗ run c (app (k0_part28 (F := F)) c w0 w1) Q) := by
  unfold app
  rw [k0_part28_eq_skeleton]
  unfold k0_part28_skel
  simp only [Prog.lift, Prog.bind_op, Prog.bind_ret, Prog.pure_eq_ret]
  iintro #Hc Ho HR HU HS Hk
  iapply (step_take A K c 1 rfl 0 (by decide) 7 (by decide) _ (recvS_eq 13 _) rfl 1 rfl (off5_up c 0) (p := k0_pay54) rfl) $$ Hc Ho HR HU
  iintro Ho HR HU
  iapply (step_sw A K c 1 1 (by decide) 7 _ (sendS_eq 8 _) rfl) $$ Hc Ho HS
  iintro Ho HS
  iapply run_ret
  iapply Hk $$ Ho HR HU HS

theorem part29 {Q} (w0 w1 w2 w3 : BitVec 32) : ctx A K ⊢ iprop(ow c 7 -∗ RW A c 1 1 -∗ outPt A c 2 -∗ SW A c 1 2 -∗ (ow c 7 -∗ RW A c 1 2 -∗ outPt A c 3 -∗ SW A c 1 3 -∗ Q ⟨⟩)
    -∗ run c (app (k0_part29 (F := F)) c w0 w1 w2 w3) Q) := by
  unfold app
  rw [k0_part29_eq_skeleton]
  unfold k0_part29_skel
  simp only [Prog.lift, Prog.bind_op, Prog.bind_ret, Prog.pure_eq_ret]
  iintro #Hc Ho HR HU HS Hk
  iapply (step_take A K c 1 rfl 1 (by decide) 7 (by decide) _ (recvS_eq 12 _) rfl 2 rfl (off5_up c 1) (p := k0_pay55) rfl) $$ Hc Ho HR HU
  iintro Ho HR HU
  iapply (step_sw A K c 1 2 (by decide) 7 _ (sendS_eq 9 _) rfl) $$ Hc Ho HS
  iintro Ho HS
  iapply run_ret
  iapply Hk $$ Ho HR HU HS

theorem part30 {Q} (w0 w1 : BitVec 32) : ctx A K ⊢ iprop(ow c 7 -∗ RW A c 1 2 -∗ outPt A c 3 -∗ SW A c 1 3 -∗ (ow c 7 -∗ RW A c 1 3 -∗ outPt A c 4 -∗ SW A c 1 4 -∗ Q ⟨⟩)
    -∗ run c (app (k0_part30 (F := F)) c w0 w1) Q) := by
  unfold app
  rw [k0_part30_eq_skeleton]
  unfold k0_part30_skel
  simp only [Prog.lift, Prog.bind_op, Prog.bind_ret, Prog.pure_eq_ret]
  iintro #Hc Ho HR HU HS Hk
  iapply (step_take A K c 1 rfl 2 (by decide) 7 (by decide) _ (recvS_eq 11 _) rfl 3 rfl (off5_up c 2) (p := k0_pay56) rfl) $$ Hc Ho HR HU
  iintro Ho HR HU
  iapply (step_sw A K c 1 3 (by decide) 7 _ (sendS_eq 10 _) rfl) $$ Hc Ho HS
  iintro Ho HS
  iapply run_ret
  iapply Hk $$ Ho HR HU HS

theorem part31 {Q} (w0 w1 : BitVec 32) : ctx A K ⊢ iprop(ow c 7 -∗ RW A c 1 3 -∗ outPt A c 4 -∗ SW A c 1 4 -∗ (ow c 7 -∗ RW A c 1 4 -∗ outPt A c 5 -∗ SW A c 1 5 -∗ Q ⟨⟩)
    -∗ run c (app (k0_part31 (F := F)) c w0 w1) Q) := by
  unfold app
  rw [k0_part31_eq_skeleton]
  unfold k0_part31_skel
  simp only [Prog.lift, Prog.bind_op, Prog.bind_ret, Prog.pure_eq_ret]
  iintro #Hc Ho HR HU HS Hk
  iapply (step_take A K c 1 rfl 3 (by decide) 7 (by decide) _ (recvS_eq 10 _) rfl 4 rfl (off5_up c 3) (p := k0_pay57) rfl) $$ Hc Ho HR HU
  iintro Ho HR HU
  iapply (step_sw A K c 1 4 (by decide) 7 _ (sendS_eq 11 _) rfl) $$ Hc Ho HS
  iintro Ho HS
  iapply run_ret
  iapply Hk $$ Ho HR HU HS

theorem part32 {Q} (w0 w1 : BitVec 32) : ctx A K ⊢ iprop(ow c 7 -∗ RW A c 1 4 -∗ outPt A c 5 -∗ SW A c 1 5 -∗ (∀ r, ow c 7 -∗ RW A c 1 6 -∗ outPt A c 6 -∗ SW A c 1 6 -∗ Q r)
    -∗ run c (app (k0_part32 (F := F)) c w0 w1) Q) := by
  unfold app
  rw [k0_part32_eq_skeleton]
  unfold k0_part32_skel
  simp only [Prog.lift, Prog.bind_op, Prog.bind_ret, Prog.pure_eq_ret]
  iintro #Hc Ho HR HU HS Hk
  iapply (step_take A K c 1 rfl 4 (by decide) 7 (by decide) _ (recvS_eq 9 _) rfl 5 rfl (off5_up c 4) (p := k0_pay58) rfl) $$ Hc Ho HR HU
  iintro Ho HR HU
  iapply (step_sw A K c 1 5 (by decide) 7 _ (sendS_eq 12 _) rfl) $$ Hc Ho HS
  iintro Ho HS
  iapply (step_rw A K c 1 5 (by decide) 7 (by decide) _ (recvS_eq 8 _) rfl) $$ Hc Ho HR
  iintro Ho HR
  iapply run_ret
  iapply Hk $$ Ho HR HU HS

theorem part33 {Q} (w0 w1 w2 : BitVec 32) : ctx A K ⊢ iprop(ow c 7 -∗ RW A c 1 6 -∗ outPt A c 6 -∗ SW A c 1 6 -∗ (∀ r, ow c 7 -∗ RW A c 1 7 -∗ outPt A c 7 -∗ SW A c 1 7 -∗ Q r)
    -∗ run c (app (k0_part33 (F := F)) c w0 w1 w2) Q) := by
  unfold app
  rw [k0_part33_eq_skeleton]
  unfold k0_part33_skel
  simp only [Prog.lift, Prog.bind_op, Prog.bind_ret, Prog.pure_eq_ret]
  iintro #Hc Ho HR HU HS Hk
  iapply (step_out_rw A c 1 rfl 6 5 (by decide) (by decide) 6 rfl (off5_up c 5) (p := k0_pay59) rfl) $$ HR HU
  iintro HR HU
  iapply (step_sw A K c 1 6 (by decide) 7 _ (sendS_eq 13 _) rfl) $$ Hc Ho HS
  iintro Ho HS
  iapply (step_rw A K c 1 6 (by decide) 7 (by decide) _ (recvS_eq 7 _) rfl) $$ Hc Ho HR
  iintro Ho HR
  iapply run_ret
  iapply Hk $$ Ho HR HU HS

theorem part34 {Q} (w0 w1 : BitVec 32) : ctx A K ⊢ iprop(ow c 7 -∗ RW A c 1 7 -∗ outPt A c 7 -∗ SW A c 2 0 -∗ RW A c 2 0 -∗ (ow c 7 -∗ RW A c 1 7 -∗ outPt A c 8 -∗ SW A c 2 1 -∗ RW A c 2 1 -∗ Q ⟨⟩)
    -∗ run c (app (k0_part34 (F := F)) c w0 w1) Q) := by
  unfold app
  rw [k0_part34_eq_skeleton]
  unfold k0_part34_skel
  simp only [Prog.lift, Prog.bind_op, Prog.bind_ret, Prog.pure_eq_ret]
  iintro #Hc Ho HR HU HS HR2 Hk
  iapply (step_out_rw A c 1 rfl 7 6 (by decide) (by decide) 7 rfl (off5_up c 6) (p := k0_pay60) rfl) $$ HR HU
  iintro HR HU
  iapply (step_sw A K c 2 0 (by decide) 7 _ (sendS_eq 14 _) rfl) $$ Hc Ho HS
  iintro Ho HS
  iapply (step_rw A K c 2 0 (by decide) 7 (by decide) _ (recvS_eq 20 _) rfl) $$ Hc Ho HR2
  iintro Ho HR2
  iapply run_ret
  iapply Hk $$ Ho HR HU HS HR2

theorem part35 {Q} (w0 w1 : BitVec 32) : ctx A K ⊢ iprop(ow c 7 -∗ SW A c 2 1 -∗ RW A c 2 1 -∗ (ow c 7 -∗ SW A c 2 3 -∗ RW A c 2 2 -∗ Q ⟨⟩)
    -∗ run c (app (k0_part35 (F := F)) c w0 w1) Q) := by
  unfold app
  rw [k0_part35_eq_skeleton]
  unfold k0_part35_skel
  simp only [Prog.lift, Prog.bind_op, Prog.bind_ret, Prog.pure_eq_ret]
  iintro #Hc Ho HS HR Hk
  iapply (step_sw A K c 2 1 (by decide) 7 _ (sendS_eq 15 _) rfl) $$ Hc Ho HS
  iintro Ho HS
  iapply (step_rw A K c 2 1 (by decide) 7 (by decide) _ (recvS_eq 19 _) rfl) $$ Hc Ho HR
  iintro Ho HR
  iapply (step_sw A K c 2 2 (by decide) 7 _ (sendS_eq 16 _) rfl) $$ Hc Ho HS
  iintro Ho HS
  iapply run_ret
  iapply Hk $$ Ho HS HR

theorem part36 {Q} (w0 : BitVec 32) : ctx A K ⊢ iprop(ow c 7 -∗ SW A c 2 3 -∗ RW A c 2 2 -∗ (ow c 7 -∗ SW A c 2 5 -∗ RW A c 2 4 -∗ Q ⟨⟩)
    -∗ run c (app (k0_part36 (F := F)) c w0) Q) := by
  unfold app
  rw [k0_part36_eq_skeleton]
  unfold k0_part36_skel
  simp only [Prog.lift, Prog.bind_op, Prog.bind_ret, Prog.pure_eq_ret]
  iintro #Hc Ho HS HR Hk
  iapply (step_rw A K c 2 2 (by decide) 7 (by decide) _ (recvS_eq 18 _) rfl) $$ Hc Ho HR
  iintro Ho HR
  iapply (step_sw A K c 2 3 (by decide) 7 _ (sendS_eq 17 _) rfl) $$ Hc Ho HS
  iintro Ho HS
  iapply (step_rw A K c 2 3 (by decide) 7 (by decide) _ (recvS_eq 17 _) rfl) $$ Hc Ho HR
  iintro Ho HR
  iapply (step_sw A K c 2 4 (by decide) 7 _ (sendS_eq 18 _) rfl) $$ Hc Ho HS
  iintro Ho HS
  iapply run_ret
  iapply Hk $$ Ho HS HR

theorem part37 {Q} (w0 w1 : BitVec 32) : ctx A K ⊢ iprop(ow c 7 -∗ SW A c 2 5 -∗ RW A c 2 4 -∗ (ow c 7 -∗ SW A c 2 6 -∗ RW A c 2 6 -∗ Q ⟨⟩)
    -∗ run c (app (k0_part37 (F := F)) c w0 w1) Q) := by
  unfold app
  rw [k0_part37_eq_skeleton]
  unfold k0_part37_skel
  simp only [Prog.lift, Prog.bind_op, Prog.bind_ret, Prog.pure_eq_ret]
  iintro #Hc Ho HS HR Hk
  iapply (step_rw A K c 2 4 (by decide) 7 (by decide) _ (recvS_eq 16 _) rfl) $$ Hc Ho HR
  iintro Ho HR
  iapply (step_sw A K c 2 5 (by decide) 7 _ (sendS_eq 19 _) rfl) $$ Hc Ho HS
  iintro Ho HS
  iapply (step_rw A K c 2 5 (by decide) 7 (by decide) _ (recvS_eq 15 _) rfl) $$ Hc Ho HR
  iintro Ho HR
  iapply run_ret
  iapply Hk $$ Ho HS HR

theorem part38 {Q} (w0 w1 : BitVec 32) : ctx A K ⊢ iprop(ow c 7 -∗ SW A c 2 6 -∗ RW A c 2 6 -∗ cPt c (1 : Fin 2).val c.val fullShare (A.part 1 c c) -∗ (ow c 7 -∗ SW A c 2 7 -∗ RZ c 2 -∗ UC c 1 -∗ cPt c (1 : Fin 2).val c.val fullShare (A.part 1 c c) -∗ SL A c 1 -∗ Q (k0_pay61 (A.part 1 c c) (A.part 1 (up c ⟨0, by decide⟩) c) (A.part 1 (up c ⟨1, by decide⟩) c)))
    -∗ run c (app (k0_part38 (F := F)) c w0 w1) Q) := by
  unfold app
  rw [k0_part38_eq_skeleton]
  unfold k0_part38_skel
  simp only [Prog.lift, Prog.bind_op, Prog.bind_ret, Prog.pure_eq_ret]
  iintro #Hc Ho HS HR H Hk
  iapply (step_sw A K c 2 6 (by decide) 7 _ (sendS_eq 20 _) rfl) $$ Hc Ho HS
  iintro Ho HS
  iapply (step_rw A K c 2 6 (by decide) 7 (by decide) _ (recvS_eq 14 _) rfl) $$ Hc Ho HR
  iintro Ho HR
  ihave HR := (rw_scatter A c 2 rfl 1 rfl) $$ HR
  icases HR with ⟨HZ, HL, HC⟩
  iapply (step_own_load c 1 fullShare (k0_off6_eq c)) $$ H
  iintro H
  iapply (step_sl A c 1 0 (by decide) rfl) $$ HL
  iintro HL
  iapply (step_sl A c 1 1 (by decide) rfl) $$ HL
  iintro HL
  iapply run_ret
  iapply Hk $$ Ho HS HZ HC H HL

theorem part39 {Q} (w0 : BitVec 32) : ctx A K ⊢ iprop(cPt c (1 : Fin 2).val c.val fullShare (A.part 1 c c) -∗ SL A c 1 -∗ GT c 3 -∗ (∀ r, GA A c 3 0 -∗ SL A c 1 -∗ Q r)
    -∗ run c (app (k0_part39 (F := F)) c w0 (k0_pay61 (A.part 1 c c) (A.part 1 (up c ⟨0, by decide⟩) c) (A.part 1 (up c ⟨1, by decide⟩) c))) Q) := by
  unfold app
  rw [k0_part39_eq_skeleton]
  unfold k0_part39_skel
  simp only [Prog.lift, Prog.bind_op, Prog.bind_ret, Prog.pure_eq_ret]
  iintro #Hc H HL HT Hk
  iapply (step_sl A c 1 2 (by decide) rfl) $$ HL
  iintro HL
  iapply (step_sl A c 1 3 (by decide) rfl) $$ HL
  iintro HL
  iapply (step_sl A c 1 4 (by decide) rfl) $$ HL
  iintro HL
  iapply (step_sl A c 1 5 (by decide) rfl) $$ HL
  iintro HL
  iapply (step_sl A c 1 6 (by decide) rfl) $$ HL
  iintro HL
  iapply (step_own_load c 1 fullShare (k0_off6_eq c)) $$ H
  iintro H
  ihave H := (cPt_any c _ _ _) $$ H
  iapply (run_store_c (hh := (1 : Fin 2).val) c (k0_off6_eq c) _) $$ H
  iintro H
  rw [show k0_pay62 (k0_pay61 (A.part 1 c c) (A.part 1 (up c ⟨0, by decide⟩) c) (A.part 1 (up c ⟨1, by decide⟩) c)) (A.part 1 (up c ⟨2, by decide⟩) c) (A.part 1 (up c ⟨3, by decide⟩) c) (A.part 1 (up c ⟨4, by decide⟩) c)
    (A.part 1 (up c ⟨5, by decide⟩) c) (A.part 1 (up c ⟨6, by decide⟩) c) = A.red 1 c from rfl]
  ihave H := (ga_start A c 3 1 rfl) $$ H HT
  iapply run_ret
  iapply Hk $$ H HL

theorem part40 {Q} (w0 : BitVec 32) : ctx A K ⊢ iprop(ow c 7 -∗ GA A c 3 0 -∗ (∀ r, ow c 5 -∗ GA A c 3 2 -∗ Q r)
    -∗ run c (app (k0_part40 (F := F)) c w0) Q) := by
  unfold app
  rw [k0_part40_eq_skeleton]
  unfold k0_part40_skel
  simp only [Prog.lift, Prog.bind_op, Prog.bind_ret, Prog.pure_eq_ret]
  iintro #Hc Ho H Hk
  iapply (step_ga A K c 3 rfl 0 (by decide) 6 rfl _ (dev_eq c 0 _ (k0_dev29_eq c)) (k0_off7_eq c) _ _ (sendS_eq 21 _) (recvS_eq 27 _)) $$ Hc Ho H
  iintro Ho H
  iapply (step_ga A K c 3 rfl 1 (by decide) 5 rfl _ (dev_eq c 1 _ (k0_dev30_eq c)) (k0_off7_eq c) _ _ (sendS_eq 22 _) (recvS_eq 26 _)) $$ Hc Ho H
  iintro Ho H
  iapply run_ret
  iapply Hk $$ Ho H

theorem part41 {Q} (w0 : BitVec 32) : ctx A K ⊢ iprop(ow c 5 -∗ GA A c 3 2 -∗ (∀ r r1 r2 r3, ow c 2 -∗ GA A c 3 5 -∗ Q ⟨r, r1, r2, r3⟩)
    -∗ run c (app (k0_part41 (F := F)) c w0) Q) := by
  unfold app
  rw [k0_part41_eq_skeleton]
  unfold k0_part41_skel
  simp only [Prog.lift, Prog.bind_op, Prog.bind_ret, Prog.pure_eq_ret]
  iintro #Hc Ho H Hk
  iapply (step_ga A K c 3 rfl 2 (by decide) 4 rfl _ (dev_eq c 2 _ (k0_dev31_eq c)) (k0_off7_eq c) _ _ (sendS_eq 23 _) (recvS_eq 25 _)) $$ Hc Ho H
  iintro Ho H
  iapply (step_ga A K c 3 rfl 3 (by decide) 3 rfl _ (dev_eq c 3 _ (k0_dev32_eq c)) (k0_off7_eq c) _ _ (sendS_eq 24 _) (recvS_eq 24 _)) $$ Hc Ho H
  iintro Ho H
  iapply (step_ga A K c 3 rfl 4 (by decide) 2 rfl _ (dev_eq c 4 _ (k0_dev33_eq c)) (k0_off7_eq c) _ _ (sendS_eq 25 _) (recvS_eq 23 _)) $$ Hc Ho H
  iintro Ho H
  iapply run_ret
  iapply Hk $$ Ho H

theorem part42 {Q} (w0 w1 w2 : BitVec 32) : ctx A K ⊢ iprop(ow c 2 -∗ GA A c 3 5 -∗ SP c 3 -∗ outPt A c 8 -∗ (∀ r, ow c 0 -∗ SW A c 3 0 -∗ cPt c (1 : Fin 2).val c.val (keep 7) (A.red 1 c) -∗ outPt A c 9 -∗ Q r)
    -∗ run c (app (k0_part42 (F := F)) c w0 w1 w2) Q) := by
  unfold app
  rw [k0_part42_eq_skeleton]
  unfold k0_part42_skel
  simp only [Prog.lift, Prog.bind_op, Prog.bind_ret, Prog.pure_eq_ret]
  iintro #Hc Ho H HP HU Hk
  iapply (step_ga A K c 3 rfl 5 (by decide) 1 rfl _ (dev_eq c 5 _ (k0_dev34_eq c)) (k0_off7_eq c) _ _ (sendS_eq 26 _) (recvS_eq 22 _)) $$ Hc Ho H
  iintro Ho H
  iapply (step_ga A K c 3 rfl 6 (by decide) 0 rfl _ (dev_eq c 6 _ (k0_dev35_eq c)) (k0_off7_eq c) _ _ (sendS_eq 27 _) (recvS_eq 21 _)) $$ Hc Ho H
  iintro Ho H
  ihave H := (sw_start' A c 3 1 rfl) $$ H HP
  icases H with ⟨HS, HG⟩
  iapply (step_out_own A c 1 8 rfl (keep 7) (k0_off6_eq c) (p := k0_pay63) rfl) $$ HG HU
  iintro HG HU
  iapply run_ret
  iapply Hk $$ Ho HS HG HU

theorem part43 {Q} (w0 w1 : BitVec 32) : ctx A K ⊢ iprop(ow c 0 -∗ SW A c 3 0 -∗ RW A c 3 0 -∗ outPt A c 9 -∗ (ow c 0 -∗ SW A c 3 1 -∗ RW A c 3 1 -∗ outPt A c 10 -∗ Q ⟨⟩)
    -∗ run c (app (k0_part43 (F := F)) c w0 w1) Q) := by
  unfold app
  rw [k0_part43_eq_skeleton]
  unfold k0_part43_skel
  simp only [Prog.lift, Prog.bind_op, Prog.bind_ret, Prog.pure_eq_ret]
  iintro #Hc Ho HS HR HU Hk
  iapply (step_sw A K c 3 0 (by decide) 0 _ (sendS_eq 21 _) rfl) $$ Hc Ho HS
  iintro Ho HS
  iapply (step_take A K c 3 rfl 0 (by decide) 0 (by decide) _ (recvS_eq 27 _) rfl 9 rfl (off8_up c 0) (p := k0_pay64) rfl) $$ Hc Ho HR HU
  iintro Ho HR HU
  iapply run_ret
  iapply Hk $$ Ho HS HR HU

theorem part44 {Q} (w0 w1 : BitVec 32) : ctx A K ⊢ iprop(ow c 0 -∗ SW A c 3 1 -∗ RW A c 3 1 -∗ outPt A c 10 -∗ (ow c 0 -∗ SW A c 3 2 -∗ RW A c 3 2 -∗ outPt A c 11 -∗ Q ⟨⟩)
    -∗ run c (app (k0_part44 (F := F)) c w0 w1) Q) := by
  unfold app
  rw [k0_part44_eq_skeleton]
  unfold k0_part44_skel
  simp only [Prog.lift, Prog.bind_op, Prog.bind_ret, Prog.pure_eq_ret]
  iintro #Hc Ho HS HR HU Hk
  iapply (step_sw A K c 3 1 (by decide) 0 _ (sendS_eq 22 _) rfl) $$ Hc Ho HS
  iintro Ho HS
  iapply (step_take A K c 3 rfl 1 (by decide) 0 (by decide) _ (recvS_eq 26 _) rfl 10 rfl (off8_up c 1) (p := k0_pay65) rfl) $$ Hc Ho HR HU
  iintro Ho HR HU
  iapply run_ret
  iapply Hk $$ Ho HS HR HU

theorem part45 {Q} (w0 w1 : BitVec 32) : ctx A K ⊢ iprop(ow c 0 -∗ SW A c 3 2 -∗ RW A c 3 2 -∗ outPt A c 11 -∗ (ow c 0 -∗ SW A c 3 4 -∗ RW A c 3 3 -∗ outPt A c 12 -∗ Q ⟨⟩)
    -∗ run c (app (k0_part45 (F := F)) c w0 w1) Q) := by
  unfold app
  rw [k0_part45_eq_skeleton]
  unfold k0_part45_skel
  simp only [Prog.lift, Prog.bind_op, Prog.bind_ret, Prog.pure_eq_ret]
  iintro #Hc Ho HS HR HU Hk
  iapply (step_sw A K c 3 2 (by decide) 0 _ (sendS_eq 23 _) rfl) $$ Hc Ho HS
  iintro Ho HS
  iapply (step_take A K c 3 rfl 2 (by decide) 0 (by decide) _ (recvS_eq 25 _) rfl 11 rfl (off8_up c 2) (p := k0_pay66) rfl) $$ Hc Ho HR HU
  iintro Ho HR HU
  iapply (step_sw A K c 3 3 (by decide) 0 _ (sendS_eq 24 _) rfl) $$ Hc Ho HS
  iintro Ho HS
  iapply run_ret
  iapply Hk $$ Ho HS HR HU

theorem part46 {Q} (w0 w1 : BitVec 32) : ctx A K ⊢ iprop(ow c 0 -∗ SW A c 3 4 -∗ RW A c 3 3 -∗ outPt A c 12 -∗ (ow c 0 -∗ SW A c 3 5 -∗ RW A c 3 4 -∗ outPt A c 13 -∗ Q ⟨⟩)
    -∗ run c (app (k0_part46 (F := F)) c w0 w1) Q) := by
  unfold app
  rw [k0_part46_eq_skeleton]
  unfold k0_part46_skel
  simp only [Prog.lift, Prog.bind_op, Prog.bind_ret, Prog.pure_eq_ret]
  iintro #Hc Ho HS HR HU Hk
  iapply (step_take A K c 3 rfl 3 (by decide) 0 (by decide) _ (recvS_eq 24 _) rfl 12 rfl (off8_up c 3) (p := k0_pay67) rfl) $$ Hc Ho HR HU
  iintro Ho HR HU
  iapply (step_sw A K c 3 4 (by decide) 0 _ (sendS_eq 25 _) rfl) $$ Hc Ho HS
  iintro Ho HS
  iapply run_ret
  iapply Hk $$ Ho HS HR HU

theorem part47 {Q} (w0 w1 w2 : BitVec 32) : ctx A K ⊢ iprop(ow c 0 -∗ SW A c 3 5 -∗ RW A c 3 4 -∗ outPt A c 13 -∗ (ow c 0 -∗ SW A c 3 6 -∗ RW A c 3 5 -∗ outPt A c 14 -∗ Q ⟨⟩)
    -∗ run c (app (k0_part47 (F := F)) c w0 w1 w2) Q) := by
  unfold app
  rw [k0_part47_eq_skeleton]
  unfold k0_part47_skel
  simp only [Prog.lift, Prog.bind_op, Prog.bind_ret, Prog.pure_eq_ret]
  iintro #Hc Ho HS HR HU Hk
  iapply (step_take A K c 3 rfl 4 (by decide) 0 (by decide) _ (recvS_eq 23 _) rfl 13 rfl (off8_up c 4) (p := k0_pay68) rfl) $$ Hc Ho HR HU
  iintro Ho HR HU
  iapply (step_sw A K c 3 5 (by decide) 0 _ (sendS_eq 26 _) rfl) $$ Hc Ho HS
  iintro Ho HS
  iapply run_ret
  iapply Hk $$ Ho HS HR HU

theorem part48 {Q} (w0 w1 : BitVec 32) : ctx A K ⊢ iprop(ow c 0 -∗ SW A c 3 6 -∗ RW A c 3 5 -∗ outPt A c 14 -∗ (ow c 0 -∗ SW A c 3 7 -∗ RW A c 3 6 -∗ outPt A c 15 -∗ Q ⟨⟩)
    -∗ run c (app (k0_part48 (F := F)) c w0 w1) Q) := by
  unfold app
  rw [k0_part48_eq_skeleton]
  unfold k0_part48_skel
  simp only [Prog.lift, Prog.bind_op, Prog.bind_ret, Prog.pure_eq_ret]
  iintro #Hc Ho HS HR HU Hk
  iapply (step_take A K c 3 rfl 5 (by decide) 0 (by decide) _ (recvS_eq 22 _) rfl 14 rfl (off8_up c 5) (p := k0_pay69) rfl) $$ Hc Ho HR HU
  iintro Ho HR HU
  iapply (step_sw A K c 3 6 (by decide) 0 _ (sendS_eq 27 _) rfl) $$ Hc Ho HS
  iintro Ho HS
  iapply run_ret
  iapply Hk $$ Ho HS HR HU

end Cert.Attn
end
-- ==== Proof.Body.lean ====
/-
The whole body, stretch by stretch.
-/
module

public import proofs.«01_k».proof.Proof.Parts3

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (A : Inp F) (K : Dev nD × CI → ℕ) (c : Dev nD)

theorem run_bind {α β : Type} {p : Prog (TpuEff nD τ sig (Elt F) Λ₀ .tc) α} {k : α → Prog (TpuEff nD τ sig (Elt F) Λ₀ .tc) β}
    {Q : β → sProp (MT nD τ sig Unit (Elt F) ℕ UU ℕ)} : run c p (fun a => run c (k a) Q) ⊢ run c (p >>= k) Q := by
  unfold run; rw [wp_bind]

/-- What a device's body starts with. -/
def BEG : sProp 𝕄 :=
  iprop(ow c 35 ∗ SIG c 0 ∗ hold c cc0_stg0_0 (A.x c) ∗ hold c cc0_stg1_0 (A.wq c) ∗ hold c cc0_stg2_0 (A.wo c) ∗ KV A c ∗ oPt A c 0 0
    ∗ CH A c 0 0 ∗ CH A c 1 0 ∗ (cred (tallyAt (barCell c) () 7) ∗ atPos ER (barCell c) 0 ∅ 0)
    ∗ TK c 0 ∗ TK c 1 ∗ TK c 2 ∗ TK c 3 ∗ SP c 0 ∗ SP c 1 ∗ SP c 2 ∗ SP c 3 ∗ RW A c 0 0 ∗ RW A c 1 0 ∗ RW A c 2 0 ∗ RW A c 3 0 ∗ outPt A c 0)

/-- What it ends with. -/
def FIN : sProp 𝕄 :=
  iprop(ow c 0 ∗ hold c cc0_stg0_0 (A.x c) ∗ hold c cc0_stg1_0 (A.wq c) ∗ hold c cc0_stg2_0 (A.wo c) ∗ KV A c ∗ oPt A c 1 8
    ∗ CX c 0 ∗ CX c 1 ∗ SL A c 0 ∗ SL A c 1 ∗ semVal (barCell c) 0 ∗ (SZ c 0 ∗ SZ c 1 ∗ SZ c 2 ∗ SZ c 3) ∗ (RZ c 0 ∗ RZ c 1 ∗ RZ c 2 ∗ RZ c 3) ∗ outPt A c 16)

set_option maxHeartbeats 1000000 in
theorem body_run {Q} : ctx A K ⊢ iprop(BEG A c -∗ (FIN A c -∗ Q ⟨⟩) -∗ run c (app (cc0__body (F := F))) Q) := by
  unfold app BEG FIN
  rw [cc0__body_eq_skeleton]
  unfold cc0__body_skel
  rw [k0_part49_eq_skeleton]
  unfold k0_part49_skel
  simp only [bind_assoc]
  iintro #Hc ⟨Ho, HSig, Hx, Hq, HW, HK, HO, HC0, HC1, HB, HT0, HT1, HT2, HT3, HP0, HP1, HP2, HP3, HR0, HR1, HR2, HR3, HY⟩ Hk
  iapply run_bind
  iapply (part1 A K c) $$ Hc Ho HSig
  iintro %u0 %u1 Ho HSig
  iapply run_bind
  iapply (part2 A K c _ _ _) $$ Hc Ho HSig Hx Hq HK HO
  iintro Ho HSig Hx Hq HK HO
  iapply run_bind
  iapply (part3 A K c) $$ Hc HK HO
  iintro HK HO
  iapply run_bind
  iapply (part4 A K c) $$ Hc HK HO
  iintro HK HO
  iapply run_bind
  iapply (part5 A K c) $$ Hc HK HO
  iintro HK HO
  iapply run_bind
  iapply (part6 A K c) $$ Hc HK HO HW HC0
  iintro HK HO HW HC0
  iapply run_bind
  iapply (part7 A K c _) $$ Hc Ho HC0 HB
  iintro %u0 Ho HC0 ⟨HZB, HB⟩
  ihave HT := (bar_split c) $$ HB HT0 HT2
  icases HT with ⟨HT0, HT2⟩
  ihave H := (sc_start A c 0 0 rfl) $$ HC0 HT0
  icases H with ⟨HG0, H⟩
  iapply run_bind
  iapply (part8 A K c _) $$ Hc Ho H
  iintro %u0 Ho H
  iapply run_bind
  iapply (part9 A K c _) $$ Hc Ho H
  iintro %u0 Ho H
  iapply run_bind
  iapply (part10 A K c _ _) $$ Hc Ho H HK
  iintro %u0 Ho H HK
  ihave HO := (oPt_start A c 0 1 8) $$ HO
  ihave HS0 := (sw_start A c 0) $$ H HP0
  iapply run_bind
  iapply (part11 A K c) $$ Hc HK HO
  iintro HK HO
  iapply run_bind
  iapply (part12 A K c) $$ Hc Ho HS0 HK HO
  iintro Ho HS0 HK HO
  iapply run_bind
  iapply (part13 A K c _ _) $$ Hc Ho HS0 HR0
  iintro Ho HS0 HR0
  iapply run_bind
  iapply (part14 A K c _ _) $$ Hc Ho HS0 HR0
  iintro Ho HS0 HR0
  iapply run_bind
  iapply (part15 A K c _) $$ Hc Ho HS0 HR0
  iintro Ho HS0 HR0
  iapply run_bind
  iapply (part16 A K c _ _ _) $$ Hc Ho HS0 HR0
  iintro Ho HS0 HR0
  ihave HS0 := (sw_scatter A c 0) $$ HS0
  icases HS0 with ⟨HS0, -⟩
  ihave HR0 := (rw_scatter A c 0 rfl 0 rfl) $$ HR0
  icases HR0 with ⟨HR0, HL0, HU⟩
  ihave HT1 := (gt_start c 1 0 rfl) $$ HU HT1
  iapply run_bind
  iapply (part17 A K c) $$ Hc HG0 HL0
  iintro HG0 HL0
  iapply run_bind
  iapply (part18 A K c _) $$ Hc Ho HG0 HT1
  iintro %u0 Ho H
  iapply run_bind
  iapply (part19 A K c _) $$ Hc Ho H
  iintro %u0 Ho H
  iapply run_bind
  iapply (part20 A K c _ _) $$ Hc Ho H
  iintro %u0 Ho H
  iapply run_bind
  iapply (part21 A K c) $$ Hc Ho H HK HO
  iintro Ho H HK HO
  ihave H := (sw_start' A c 1 0 rfl) $$ H HP1
  icases H with ⟨HS1, HG0⟩
  iapply run_bind
  iapply (part22 A K c) $$ Hc HK HO
  iintro HK HO
  iapply run_bind
  iapply (part23 A K c) $$ Hc HW HC1
  iintro HW HC1
  iapply run_bind
  iapply (part24 A K c _) $$ Hc Ho HC1 HT2
  iintro %u0 Ho HG1 H
  iapply run_bind
  iapply (part25 A K c _ _) $$ Hc Ho H
  iintro %u0 Ho H
  iapply run_bind
  iapply (part26 A K c _) $$ Hc Ho H
  iintro %u0 Ho H
  iapply run_bind
  iapply (part27 A K c _) $$ Hc Ho H HG0 HY HS1
  iintro %u0 Ho H HG0 HY HS1
  ihave HS2 := (sw_start A c 2) $$ H HP2
  iapply run_bind
  iapply (part28 A K c _ _) $$ Hc Ho HR1 HY HS1
  iintro %u0 Ho HR1 HY HS1
  iapply run_bind
  iapply (part29 A K c _ _ _ _) $$ Hc Ho HR1 HY HS1
  iintro Ho HR1 HY HS1
  iapply run_bind
  iapply (part30 A K c _ _) $$ Hc Ho HR1 HY HS1
  iintro Ho HR1 HY HS1
  iapply run_bind
  iapply (part31 A K c _ _) $$ Hc Ho HR1 HY HS1
  iintro Ho HR1 HY HS1
  iapply run_bind
  iapply (part32 A K c _ _) $$ Hc Ho HR1 HY HS1
  iintro %u0 Ho HR1 HY HS1
  iapply run_bind
  iapply (part33 A K c _ _ _) $$ Hc Ho HR1 HY HS1
  iintro %u0 Ho HR1 HY HS1
  iapply run_bind
  iapply (part34 A K c _ _) $$ Hc Ho HR1 HY HS2 HR2
  iintro Ho HR1 HY HS2 HR2
  iapply run_bind
  iapply (part35 A K c _ _) $$ Hc Ho HS2 HR2
  iintro Ho HS2 HR2
  iapply run_bind
  iapply (part36 A K c _) $$ Hc Ho HS2 HR2
  iintro Ho HS2 HR2
  iapply run_bind
  iapply (part37 A K c _ _) $$ Hc Ho HS2 HR2
  iintro Ho HS2 HR2
  iapply run_bind
  iapply (part38 A K c _ _) $$ Hc Ho HS2 HR2 HG1
  iintro Ho HS2 HR2 HU HG1 HL1
  ihave HT3 := (gt_start c 3 1 rfl) $$ HU HT3
  iapply run_bind
  iapply (part39 A K c _) $$ Hc HG1 HL1 HT3
  iintro %u0 H HL1
  iapply run_bind
  iapply (part40 A K c _) $$ Hc Ho H
  iintro %u0 Ho H
  iapply run_bind
  iapply (part41 A K c _) $$ Hc Ho H
  iintro %u0 %u1 %u2 %u3 Ho H
  iapply run_bind
  iapply (part42 A K c _ _ _) $$ Hc Ho H HP3 HY
  iintro %u0 Ho HS3 HG1 HY
  iapply run_bind
  iapply (part43 A K c _ _) $$ Hc Ho HS3 HR3 HY
  iintro Ho HS3 HR3 HY
  iapply run_bind
  iapply (part44 A K c _ _) $$ Hc Ho HS3 HR3 HY
  iintro Ho HS3 HR3 HY
  iapply run_bind
  iapply (part45 A K c _ _) $$ Hc Ho HS3 HR3 HY
  iintro Ho HS3 HR3 HY
  iapply run_bind
  iapply (part46 A K c _ _) $$ Hc Ho HS3 HR3 HY
  iintro Ho HS3 HR3 HY
  iapply run_bind
  iapply (part47 A K c _ _ _) $$ Hc Ho HS3 HR3 HY
  iintro Ho HS3 HR3 HY
  iapply run_bind
  iapply (part48 A K c _ _) $$ Hc Ho HS3 HR3 HY
  iintro Ho HS3 HR3 HY
  simp only [Prog.lift, Prog.bind_op, Prog.bind_ret, Prog.pure_eq_ret]
  iapply (step_take A K c 3 rfl 6 (by decide) 0 (by decide) _ (recvS_eq 21 _) rfl 15 rfl (off8_up c 6) (p := k0_pay1) rfl) $$ Hc Ho HR3 HY
  iintro Ho HR3 HY
  iapply run_ret
  ihave H0 := (half_done A c 1 rfl 0 rfl) $$ HS1 HR1 HG0
  ihave H1 := (half_done A c 3 rfl 1 rfl) $$ HS3 HR3 HG1
  icases H0 with ⟨HS1, HR1, HX0⟩
  icases H1 with ⟨HS3, HR3, HX1⟩
  ihave HS2 := (sw_scatter A c 2) $$ HS2
  icases HS2 with ⟨HS2, -⟩
  iapply Hk
  isplitl [Ho]; · iexact Ho
  isplitl [Hx]; · iexact Hx
  isplitl [Hq]; · iexact Hq
  isplitl [HW]; · iexact HW
  isplitl [HK]; · iexact HK
  isplitl [HO]; · iexact HO
  isplitl [HX0]; · iexact HX0
  isplitl [HX1]; · iexact HX1
  isplitl [HL0]; · iexact HL0
  isplitl [HL1]; · iexact HL1
  isplitl [HZB]; · iexact HZB
  isplitl [HS0 HS1 HS2 HS3]
  · isplitl [HS0]; · iexact HS0
    isplitl [HS1]; · iexact HS1
    isplitl [HS2] <;> iassumption
  isplitl [HR0 HR1 HR2 HR3]
  · isplitl [HR0]; · iexact HR0
    isplitl [HR1]; · iexact HR1
    isplitl [HR2] <;> iassumption
  iexact HY

end Cert.Attn
end
-- ==== Proof.Cells.lean ====
/-
The cells at launch: every device's semaphores put under the schedule at once, the duty tokens passed to the devices
that pay them, and the credit each device starts with.
-/
module

public import proofs.«01_k».proof.Proof.Body

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (A : Inp F)

/-! ## Regrouping -/

/-- The send and receive semaphores. -/
abbrev osem : Bool × Fin 28 → SemLoc sig
  | (false, i) => .dma (sendS i)
  | (true, i) => .dma (recvS i)

theorem osem_eq (k : Bool × Fin 28) : osem k = csem (some k) := by rcases k with ⟨_ | _, i⟩ <;> rfl

section Regroup
variable {I : Type} [Fintype I] [DecidableEq I]

theorem ci_split (Φ : CI → sProp (MT nD τ sig Unit (Elt F) ℕ UU ℕ)) :
    bigSep Finset.univ Φ = iprop(Φ none ∗ bigSep Finset.univ (fun i : Fin 28 => Φ (some (false, i))) ∗ bigSep Finset.univ (fun i : Fin 28 => Φ (some (true, i)))) := by
  have h : (Finset.univ : Finset CI).erase none = (Finset.univ : Finset (Bool × Fin 28)).map ⟨some, Option.some_injective _⟩ := by
    ext k; cases k <;> simp
  have hb : bigSep Finset.univ (fun k : Bool × Fin 28 => Φ (some k))
      = iprop(bigSep Finset.univ (fun i : Fin 28 => Φ (some (false, i))) ∗ bigSep Finset.univ (fun i : Fin 28 => Φ (some (true, i)))) := by
    rw [bigSep_univ_prod, bigSep_univ_eq_bigSepL [false, true] (by decide) (by decide)]; rfl
  rw [bigSep_univ_at Φ none, h, BI.bigSep_map]
  exact congrArg _ hb

theorem own_split (Φ : Bool × Fin 28 → sProp (MT nD τ sig Unit (Elt F) ℕ UU ℕ)) :
    bigSep Finset.univ Φ = iprop(bigSep Finset.univ (fun i : Fin 28 => Φ (false, i)) ∗ bigSep Finset.univ (fun i : Fin 28 => Φ (true, i))) := by
  rw [bigSep_univ_prod, bigSep_univ_eq_bigSepL [false, true] (by decide) (by decide)]; rfl

/-- The transfers, stage by stage. -/
def trE : Fin 4 × Fin 7 ≃ Fin 28 := Equiv.ofBijective (fun p => tr p.1 p.2) (by decide)

theorem by_stage (Φ : Fin 28 → sProp (MT nD τ sig Unit (Elt F) ℕ UU ℕ)) :
    bigSep Finset.univ Φ = iprop(bigSep Finset.univ (fun j => Φ (tr 0 j)) ∗ bigSep Finset.univ (fun j => Φ (tr 1 j))
      ∗ bigSep Finset.univ (fun j => Φ (tr 2 j)) ∗ bigSep Finset.univ (fun j => Φ (tr 3 j))) := by
  rw [bigSep_univ_equiv trE Φ, bigSep_univ_prod, bigSep_univ_eq_bigSepL [(0 : Fin 4), 1, 2, 3] (by decide) (by decide)]; rfl

/-- The device `j + 1` places ahead, as a rearrangement of the devices. -/
def upQ (j : Fin 7) : Dev nD ≃ Dev nD := ⟨fun c => up c j, fun c => up c j.rev, fun c => up_up_rev c j, fun c => up_rev_up c j⟩

/-- For every index, the devices rearranged. -/
theorem around (e : I → Dev nD ≃ Dev nD) (Φ : Dev nD → I → sProp (MT nD τ sig Unit (Elt F) ℕ UU ℕ)) :
    bigSep Finset.univ (fun c => bigSep Finset.univ (fun i => Φ c i)) = bigSep Finset.univ (fun c => bigSep Finset.univ (fun i => Φ (e i c) i)) := by
  have hc (Ψ : Dev nD → I → sProp (MT nD τ sig Unit (Elt F) ℕ UU ℕ)) :
      bigSep Finset.univ (fun c => bigSep Finset.univ (fun i => Ψ c i)) = bigSep Finset.univ (fun i => bigSep Finset.univ (fun c => Ψ c i)) := by
    rw [← bigSep_univ_prod (fun p : Dev nD × I => Ψ p.1 p.2), bigSep_univ_equiv (Equiv.prodComm I (Dev nD)), bigSep_univ_prod]; rfl
  rw [hc, hc]
  exact bigSep_congr fun i _ => bigSep_univ_equiv (e i) (fun c => Φ c i)

theorem rx_rx : ∀ i : Fin 28, rx (rx i) = i := by decide
def rxE : Fin 28 ≃ Fin 28 := ⟨rx, rx, rx_rx, rx_rx⟩

end Regroup

/-! ## The tokens -/

/-- A cell's duty tokens, by device. -/
abbrev TI : Type := Fin 7 ⊕ (Bool × Fin 28)
abbrev tokOf : Dev nD × TI → GSem nD τ sig × ℕ × Fin 7
  | (c, .inl j) => (barCell c, 0, j)
  | (c, .inr k) => (((c : Thread nD τ), osem k), 0, 0)

theorem osem_inj : Function.Injective osem := by
  rintro ⟨_ | _, i⟩ ⟨_ | _, i'⟩ h
  all_goals
    have hv := congrArg Fin.val (SemLoc.dma.inj h)
    have hi := i.isLt
    have hi' := i'.isLt
  · have h' : 6 + i.val = 6 + i'.val := hv
    rw [show i = i' from Fin.ext (by omega)]
  · have h' : 6 + i.val = 34 + i'.val := hv
    omega
  · have h' : 34 + i.val = 6 + i'.val := hv
    omega
  · have h' : 34 + i.val = 34 + i'.val := hv
    rw [show i = i' from Fin.ext (by omega)]

theorem osem_ne_bar (k : Bool × Fin 28) : osem k ≠ .reg barS := by rcases k with ⟨_ | _, i⟩ <;> exact fun h => by cases h

theorem kcell_inj : Function.Injective kcell := by
  rintro ⟨c, k⟩ ⟨c', k'⟩ h
  have h1 : c = c' := congrArg (fun g : GSem nD τ sig => g.1.1) h
  have h2 : csem k = csem k' := congrArg Prod.snd h
  subst h1
  cases k with
  | none => cases k' with
    | none => rfl
    | some k' => rw [← osem_eq] at h2; exact absurd h2.symm (osem_ne_bar k')
  | some k => cases k' with
    | none => rw [← osem_eq] at h2; exact absurd h2 (osem_ne_bar k)
    | some k' => rw [← osem_eq, ← osem_eq] at h2; rw [osem_inj h2]

theorem tokOf_inj : Function.Injective tokOf := by
  rintro ⟨c, j | k⟩ ⟨c', j' | k'⟩ h
  · have h1 : c = c' := congrArg (fun x : GSem nD τ sig × ℕ × Fin 7 => x.1.1.1) h
    have h2 : j = j' := congrArg (fun x : GSem nD τ sig × ℕ × Fin 7 => x.2.2) h
    rw [h1, h2]
  · exact absurd (congrArg (fun x : GSem nD τ sig × ℕ × Fin 7 => x.1.2) h).symm (osem_ne_bar k')
  · exact absurd (congrArg (fun x : GSem nD τ sig × ℕ × Fin 7 => x.1.2) h) (osem_ne_bar k)
  · have h1 : c = c' := congrArg (fun x : GSem nD τ sig × ℕ × Fin 7 => x.1.1.1) h
    have h2 : k = k' := osem_inj (congrArg (fun x : GSem nD τ sig × ℕ × Fin 7 => x.1.2) h)
    rw [h1, h2]

def allCells : Finset (GSem nD τ sig) := Finset.univ.map ⟨kcell, kcell_inj⟩
def allToks : Finset (GSem nD τ sig × ℕ × Fin 7) := Finset.univ.map ⟨tokOf, tokOf_inj⟩

/-- The tokens of a device's own cells, -/
def minted (c : Dev nD) : sProp 𝕄 :=
  iprop(bigSep Finset.univ (fun j : Fin 7 => dutyTok ER (barCell c) 0 j)
    ∗ bigSep Finset.univ (fun i : Fin 28 => dutyTok ER (sendCell c i) 0 (0 : Fin 7)) ∗ bigSep Finset.univ (fun i : Fin 28 => dutyTok ER (recvCell c i) 0 (0 : Fin 7)))
/-- and those a device pays with. -/
def paying (c : Dev nD) : sProp 𝕄 :=
  iprop(bigSep Finset.univ (fun j : Fin 7 => dutyTok ER (barCell (up c j)) 0 j)
    ∗ bigSep Finset.univ (fun i : Fin 28 => dutyTok ER (sendCell c i) 0 (0 : Fin 7)) ∗ bigSep Finset.univ (fun i : Fin 28 => dutyTok ER (recvCell (dst c i) (rx i)) 0 (0 : Fin 7)))

theorem tok_split (Φ : GSem nD τ sig × ℕ × Fin 7 → sProp (MT nD τ sig Unit (Elt F) ℕ UU ℕ)) :
    bigSep allToks Φ = bigSep Finset.univ (fun c : Dev nD => iprop(bigSep Finset.univ (fun j : Fin 7 => Φ (barCell c, 0, j))
      ∗ bigSep Finset.univ (fun i : Fin 28 => Φ (sendCell c i, 0, 0)) ∗ bigSep Finset.univ (fun i : Fin 28 => Φ (recvCell c i, 0, 0)))) := by
  unfold allToks
  rw [BI.bigSep_map, bigSep_univ_prod]
  refine bigSep_congr fun c _ => ?_
  have h : (Finset.univ : Finset TI) = (Finset.univ : Finset (Fin 7)).map ⟨Sum.inl, Sum.inl_injective⟩ ∪ (Finset.univ : Finset (Bool × Fin 28)).map ⟨Sum.inr, Sum.inr_injective⟩ := by
    ext k; cases k <;> simp
  have hd : Disjoint ((Finset.univ : Finset (Fin 7)).map (⟨Sum.inl, Sum.inl_injective⟩ : Fin 7 ↪ TI)) ((Finset.univ : Finset (Bool × Fin 28)).map ⟨Sum.inr, Sum.inr_injective⟩) := by
    rw [Finset.disjoint_left]; intro k hk hk'
    simp only [Finset.mem_map, Finset.mem_univ, true_and, Function.Embedding.coeFn_mk] at hk hk'
    obtain ⟨a, rfl⟩ := hk; obtain ⟨b, hb⟩ := hk'; cases hb
  rw [h, BI.bigSep_union hd, BI.bigSep_map, BI.bigSep_map]
  exact congrArg _ (own_split _)

theorem paid_around : bigSep Finset.univ (fun c : Dev nD => minted (F := F) c) = bigSep Finset.univ (fun c : Dev nD => paying (F := F) c) := by
  have hr : bigSep Finset.univ (fun c : Dev nD => bigSep Finset.univ (fun i : Fin 28 => (dutyTok ER (recvCell c i) 0 (0 : Fin 7) : sProp 𝕄)))
      = bigSep Finset.univ (fun c : Dev nD => bigSep Finset.univ (fun i : Fin 28 => (dutyTok ER (recvCell (dst c i) (rx i)) 0 (0 : Fin 7) : sProp 𝕄))) :=
    (bigSep_congr fun c _ => bigSep_univ_equiv rxE (fun i : Fin 28 => (dutyTok ER (recvCell c i) 0 (0 : Fin 7) : sProp 𝕄))).trans
      (around (fun i : Fin 28 => upQ (pos i)) (fun c i => (dutyTok ER (recvCell c (rx i)) 0 (0 : Fin 7) : sProp 𝕄)))
  unfold minted paying
  rw [bigSep_sep', bigSep_sep', bigSep_sep', bigSep_sep', hr,
    around (fun j : Fin 7 => upQ j) (fun c j => (dutyTok ER (barCell c) 0 j : sProp 𝕄))]
  rfl

/-! ## The schedule's state dealt, and the cells' invariants -/

def u₀ : UU := (initOf (Pipeline.cells cfgs cellOf_inj) (Pipeline.launchToks cfgs cellOf_inj), initOf allCells allToks)

/-- What the launch deals a device. -/
def G (c : Dev nD) : sProp 𝕄 :=
  iprop(bigSep Finset.univ (fun k : CI => roundState ER (Rd A) (kcell (c, k)) 0)
    ∗ bigSep Finset.univ (fun k : CI => atPos ER (kcell (c, k)) 0 ∅ 0) ∗ bigSep Finset.univ (fun k : CI => reached ER (kcell (c, k)) 0) ∗ minted c)

theorem cell_split (Φ : GSem nD τ sig → sProp (MT nD τ sig Unit (Elt F) ℕ UU ℕ)) :
    bigSep allCells Φ = bigSep Finset.univ (fun c : Dev nD => bigSep Finset.univ (fun k : CI => Φ (kcell (c, k)))) := by
  unfold allCells; rw [BI.bigSep_map, bigSep_univ_prod]; rfl

theorem deal : BI.own (ER (initOf allCells allToks)) ⊢ (|==> bigSep Finset.univ (G A) : sProp 𝕄) := by
  iintro HX
  imod (Rounds.fund ER (Rd A) allCells allToks) $$ HX with ⟨Hst, Hr, Hat, Htok⟩
  imodintro
  ihave Hst' := (Entails.of_eq (cell_split fun g => roundState ER (Rd A) g 0)) $$ Hst
  ihave Hat' := (Entails.of_eq (cell_split fun g => atPos ER g 0 ∅ 0)) $$ Hat
  ihave Hr' := (Entails.of_eq (cell_split fun g => reached ER g 0)) $$ Hr
  ihave Htok' := (Entails.of_eq (tok_split fun x => dutyTok ER x.1 x.2.1 x.2.2)) $$ Htok
  unfold G minted; simp only [bigSep_sep']
  isplitl [Hst']; · iexact Hst'
  isplitl [Hat']; · iexact Hat'
  isplitl [Hr']; · iexact Hr'
  iexact Htok'

/-- A device's scoped semaphores, and the barrier's. -/
abbrev owned (c : Dev nD) : sProp 𝕄 := Pipeline.ownSems0 (Ix := Unit) (Name := ℕ) (U := UU) (Lvl := ℕ) (Val := Elt F) (τ := τ) osem c

theorem bar_unscoped (c : Dev nD) : (unscopedSems0 c : sProp 𝕄) = semVal (barCell c) 0 := by
  unfold unscopedSems0; rw [bigSep_eq_bigSepL_of_eq [SemLoc.reg barS] (by decide) (by decide)]; rfl

theorem owned_eq (c : Dev nD) : owned (F := F) c
    = iprop(bigSep Finset.univ (fun i : Fin 28 => semVal (sendCell c i) 0) ∗ bigSep Finset.univ (fun i : Fin 28 => semVal (recvCell c i) 0)) := by
  show Pipeline.ownSems0 osem c = _
  unfold Pipeline.ownSems0
  exact own_split _

theorem zero_cells (c : Dev nD) : iprop(owned (F := F) c ∗ unscopedSems0 c) ⊢ bigSep Finset.univ (fun k : CI => (semVal (kcell (c, k)) 0 : sProp 𝕄)) := by
  rw [owned_eq, bar_unscoped, ci_split]
  iintro ⟨⟨HS, HR⟩, HB⟩
  isplitl [HB]; · iexact HB
  isplitl [HS]; · iexact HS
  iexact HR

theorem alloc (c : Dev nD) : iprop(owned (F := F) c ∗ unscopedSems0 c ∗ G A c)
    ⊢ |={Set.univ}=> iprop(bigSep Finset.univ (fun k : CI => iprop(∃ κ : ℕ, cellInv ER (Rd A) κ (kcell (c, k))))
        ∗ bigSep Finset.univ (fun k : CI => atPos ER (kcell (c, k)) 0 ∅ 0) ∗ bigSep Finset.univ (fun k : CI => reached ER (kcell (c, k)) 0) ∗ minted c) := by
  unfold G
  iintro ⟨Ho, Hu, Hst, Hat, Hr, Ht⟩
  ihave Hv := (zero_cells (F := F) c) $$ [Ho Hu]
  · isplitl [Ho] <;> iassumption
  imod (show iprop(bigSep Finset.univ (fun k : CI => semVal (kcell (c, k)) 0) ∗ bigSep Finset.univ (fun k : CI => roundState ER (Rd A) (kcell (c, k)) 0))
      ⊢ (|={Set.univ}=> bigSep Finset.univ (fun k : CI => iprop(∃ κ : ℕ, cellInv ER (Rd A) κ (kcell (c, k)))) : sProp 𝕄) from by
        rw [← bigSep_sep']
        exact (bigSep_mono fun k _ => (Rounds.body_intro ER (Rd A) (kcell (c, k))).trans inv_alloc).trans (bigSep_fupd _ _)) $$ [Hv Hst] with Hi
  · isplitl [Hv] <;> iassumption
  imodintro
  isplitl [Hi]; · iexact Hi
  isplitl [Hat]; · iexact Hat
  isplitl [Hr]; · iexact Hr
  iexact Ht

/-- Every cell's record, under the names `K`. -/
def known (K : Dev nD × CI → ℕ) : sProp 𝕄 :=
  iprop(bigSep Finset.univ (fun p : Dev nD × CI => cellInv ER (Rd A) (K p) (kcell p)) ∗ bigSep Finset.univ (fun p : Dev nD × CI => reached ER (kcell p) 0))
instance known_persistent (K : Dev nD × CI → ℕ) : Persistent (known A K) := by unfold known; infer_instance

/-- A device's positions and the tokens it pays with. -/
def mine (c : Dev nD) : sProp 𝕄 := iprop(bigSep Finset.univ (fun k : CI => atPos ER (kcell (c, k)) 0 ∅ 0) ∗ paying c)

def G' (c : Dev nD) : sProp 𝕄 := iprop(∃ K, known A K ∗ mine c)

theorem share_known (K : Dev nD × CI → ℕ) : iprop(known A K ∗ bigSep Finset.univ (fun c : Dev nD => mine (F := F) c)) ⊢ bigSep Finset.univ (G' A) := by
  refine (sep_mono_left (BI.bigSep_of_persistent (Finset.univ : Finset (Dev nD)) (known A K))).trans ?_
  rw [← bigSep_sep']
  refine bigSep_mono fun c _ => ?_
  show iprop(known A K ∗ mine c) ⊢ iprop(∃ K, known A K ∗ mine c)
  iintro H
  iexists K
  iexact H

theorem spread : bigSep Finset.univ (fun c : Dev nD => iprop(bigSep Finset.univ (fun k : CI => iprop(∃ κ : ℕ, cellInv ER (Rd A) κ (kcell (c, k))))
        ∗ bigSep Finset.univ (fun k : CI => atPos ER (kcell (c, k)) 0 ∅ 0) ∗ bigSep Finset.univ (fun k : CI => reached ER (kcell (c, k)) 0) ∗ minted c))
    ⊢ bigSep Finset.univ (G' A) := by
  rw [bigSep_sep', bigSep_sep', bigSep_sep', ← bigSep_univ_prod (fun p : Dev nD × CI => iprop(∃ κ : ℕ, cellInv ER (Rd A) κ (kcell p))),
    ← bigSep_univ_prod (fun p : Dev nD × CI => (reached ER (kcell p) 0 : sProp 𝕄)), paid_around]
  iintro ⟨HI, Hat, #HR, Ht⟩
  ihave HK := (BI.bigSep_exists_pi Finset.univ (fun (p : Dev nD × CI) (κ : ℕ) => (cellInv ER (Rd A) κ (kcell p) : sProp 𝕄))) $$ HI
  icases HK with ⟨%K, #HI⟩
  iapply (share_known A K)
  isplitr
  · unfold known
    isplitl; · iexact HI
    iexact HR
  · unfold mine
    rw [bigSep_sep']
    isplitl [Hat]; · iexact Hat
    iexact Ht

theorem glob : bigSep Finset.univ (fun c : Dev nD => iprop(owned (F := F) c ∗ unscopedSems0 c ∗ G A c)) ⊢ |={Set.univ}=> bigSep Finset.univ (G' A) :=
  ((bigSep_mono fun c _ => alloc A c).trans (bigSep_fupd _ _)).trans (BI.fupd_mono (spread A))

/-! ## The launch credit -/

theorem owe_eq (c : Dev nD) (g : GSem nD τ sig) (n : ℕ) : owe c n g () = ∑ k ∈ Finset.range n, ob c k g () := by
  induction n with
  | zero => rfl
  | succ n ih => rw [Finset.sum_range_succ, ← ih]; rfl

theorem up_iff (d c : Dev nD) (j : Fin 7) : up d j = c ↔ d = up c j.rev :=
  ⟨fun h => by rw [← h, up_up_rev], fun h => by rw [h, up_rev_up]⟩

theorem ob_bar (c : Dev nD) (k : ℕ) : ∑ d : Dev nD, ob d k (barCell c) () = if k < 28 then 0 else 1 := by
  unfold ob
  split
  · refine Finset.sum_eq_zero fun d _ => ?_
    rw [tallyAt_ne_cell (fun h => by cases (congrArg Prod.snd h))]; rfl
  · have h (d : Dev nD) : (tallyAt (barCell (up d ⟨(34 - k) % 7, Nat.mod_lt _ (by decide)⟩)) () 1 : CellTallies nD τ sig Unit) (barCell c) ()
        = if d = up c (⟨(34 - k) % 7, Nat.mod_lt _ (by decide)⟩ : Fin 7).rev then 1 else 0 := by
      rw [tallyAt_apply]
      refine if_congr ⟨fun h => (up_iff _ _ _).mp (congrArg (fun g : GSem nD τ sig => g.1.1) h.1).symm, fun h => ⟨?_, rfl⟩⟩ rfl rfl
      rw [(up_iff _ _ _).mpr h]
    rw [Finset.sum_congr rfl fun d _ => h d, Finset.sum_ite_eq' Finset.univ _ fun _ => 1, if_pos (Finset.mem_univ _)]

theorem ob_recv (c : Dev nD) (i : Fin 28) (k : ℕ) : ∑ d : Dev nD, ob d k (recvCell c i) () = if k = 27 - (rx i).val then N else 0 := by
  have hi := (rx i).isLt
  unfold ob
  split
  · rename_i hk
    have h (d : Dev nD) : (tallyAt (recvCell (dst d ⟨27 - k, by omega⟩) (rx ⟨27 - k, by omega⟩)) () N : CellTallies nD τ sig Unit) (recvCell c i) ()
        = if d = up c (pos ⟨27 - k, by omega⟩).rev then (if k = 27 - (rx i).val then N else 0) else 0 := by
      rw [tallyAt_apply, ← ite_and]
      refine if_congr ⟨fun h => ?_, fun h => ⟨?_, rfl⟩⟩ rfl rfl
      · have h1 : recvCell c i = recvCell (dst d ⟨27 - k, by omega⟩) (rx ⟨27 - k, by omega⟩) := h.1
        refine ⟨(up_iff _ _ _).mp (congrArg (fun g : GSem nD τ sig => g.1.1) h1).symm, ?_⟩
        have h2 : i = rx ⟨27 - k, by omega⟩ := congrArg Prod.snd (osem_inj (a₁ := (true, i)) (a₂ := (true, rx ⟨27 - k, by omega⟩)) (congrArg Prod.snd h1))
        rw [h2, rx_rx]; show k = 27 - (27 - k); omega
      · have h2 : rx ⟨27 - k, by omega⟩ = i := by
          exact (congrArg rx (show (⟨27 - k, by omega⟩ : Fin 28) = rx i from Fin.ext (by show 27 - k = (rx i).val; omega))).trans (rx_rx i)
        rw [show dst d ⟨27 - k, by omega⟩ = c from (up_iff _ _ _).mpr h.1, h2]
    rw [Finset.sum_congr rfl fun d _ => h d, Finset.sum_ite_eq' Finset.univ _ fun _ => _, if_pos (Finset.mem_univ _)]
  · rw [if_neg (by omega)]
    refine Finset.sum_eq_zero fun d _ => ?_
    rw [tallyAt_ne_cell (fun h => by cases (congrArg Prod.snd h))]; rfl

theorem launch_bar (c : Dev nD) :
    tallyOn (barCell c) (launchCredit (Pipeline.owing fun d => owe d 35) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owe_eq d _ _, Finset.sum_comm,
    Finset.sum_congr rfl fun k _ => ob_bar c k]
  decide

theorem launch_recv (c : Dev nD) (i : Fin 28) :
    tallyOn (recvCell c i) (launchCredit (Pipeline.owing fun d => owe d 35) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owe_eq d _ _, Finset.sum_comm,
    Finset.sum_congr rfl fun k _ => ob_recv c i k, Finset.sum_ite_eq' (Finset.range 35) _ fun _ => N, if_pos (Finset.mem_range.mpr (by omega))]

theorem credits (c : Dev nD) : (Pipeline.launchCred (fun d => owe d 35) c : sProp 𝕄)
    ⊢ iprop(cred (tallyAt (barCell c) () 7) ∗ bigSep Finset.univ (fun i : Fin 28 => cred (tallyAt (recvCell c i) () N))) := by
  have hi : Function.Injective (fun i : Fin 28 => (SemLoc.dma (recvS i) : SemLoc sig)) := fun i i' h =>
    congrArg Prod.snd (osem_inj (a₁ := (true, i)) (a₂ := (true, i')) h)
  unfold Pipeline.launchCred
  rw [bigSep_univ_at _ (SemLoc.reg barS), launch_bar]
  refine sep_mono_right ?_
  refine (BI.bigSep_subset (t := Finset.univ.map ⟨fun i : Fin 28 => (SemLoc.dma (recvS i) : SemLoc sig), hi⟩) fun x hx => ?_).trans ?_
  · obtain ⟨i, -, rfl⟩ := Finset.mem_map.mp hx
    exact Finset.mem_erase.mpr ⟨fun h => (by cases h), Finset.mem_univ _⟩
  · rw [BI.bigSep_map]
    exact Entails.of_eq (bigSep_congr fun i _ => congrArg cred (launch_recv c i))

end Cert.Attn

end
-- ==== Proof.Launch.lean ====
/-
The launch: what each device's body starts with is made from its buffers and semaphores, what it ends with is given back,
and the whole run follows.
-/
module

public import proofs.«01_k».proof.Proof.Cells
public import proofs.«01_k».proof.Proof.Gen.KernelIdeal.Points
public import Idealize.ShloMosaic.Lib.Ring
public import Idealize.ShloMosaic.Lib.Quiescent
public import Idealize.ShloMosaic.Lib.Pipeline.CollectiveSegs

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The scratch buffers, chunk by chunk -/

section Scratch
variable (c : Dev nD)

theorem slab_sep (n : ℕ) (b b' : Fin 2 × Fin n) (h : b ≠ b') : Disjoint (slab n b.1.val b.2.val) (slab n b'.1.val b'.2.val) :=
  slab_disjoint fun e => h (Prod.ext (Fin.ext e.1) (Fin.ext e.2))

theorem slab_cover (n : ℕ) : Finset.univ.biUnion (fun b : Fin 2 × Fin n => slab n b.1.val b.2.val) = Finset.univ := by
  ext i
  refine ⟨fun _ => Finset.mem_univ _, fun _ => Finset.mem_biUnion.mpr ⟨(⟨(i 0).val, (i 0).isLt⟩, ⟨(i 1).val, (i 1).isLt⟩), Finset.mem_univ _, ?_⟩⟩
  exact mem_slab.mpr ⟨rfl, rfl⟩

theorem two_halves {n : ℕ} (Φ : Fin 2 × Fin n → sProp (MT nD τ sig Unit (Elt F) ℕ UU ℕ)) :
    bigSep Finset.univ Φ = iprop(bigSep Finset.univ (fun k : Fin n => Φ (0, k)) ∗ bigSep Finset.univ (fun k : Fin n => Φ (1, k))) := by
  rw [bigSep_univ_prod, bigSep_univ_eq_bigSepL [(0 : Fin 2), 1] (by decide) (by decide)]; rfl

theorem open_chunks (f : Buf (Elt F) ((c : Thread nD τ).loc cc0_scratch0)) :
    (((c : Thread nD τ).loc cc0_scratch0) ↦{fullShare} f : sProp 𝕄) ⊢ iprop(CX c 0 ∗ CX c 1) := by
  rw [Ring.pointsTo_blocks (ℓ := (c : Thread nD τ).loc cc0_scratch0) (fun b : Fin 2 × Fin 8 => slab 8 b.1.val b.2.val) (fun b b' h => slab_sep 8 b b' h) (slab_cover 8) f]
  refine (bigSep_mono (Ψ := fun b : Fin 2 × Fin 8 => cAny (F := F) c b.1.val b.2.val) fun b _ => ?_).trans (Entails.of_eq (two_halves _))
  show (((c : Thread nD τ).loc cc0_scratch0) ↦[slab 8 b.1.val b.2.val]{fullShare} f : sProp 𝕄) ⊢ cAny c b.1.val b.2.val
  unfold cAny
  iintro H; iexists f; iexact H

theorem close_chunks : iprop(CX (F := F) c 0 ∗ CX c 1) ⊢ (iprop(∃ f, ((c : Thread nD τ).loc cc0_scratch0) ↦{fullShare} f) : sProp 𝕄) := by
  refine (Entails.of_eq (two_halves (fun b : Fin 2 × Fin 8 => cAny (F := F) c b.1.val b.2.val)).symm).trans ?_
  exact Ring.pointsTo_blocks_join_exists (ℓ := (c : Thread nD τ).loc cc0_scratch0) (fun b : Fin 2 × Fin 8 => slab 8 b.1.val b.2.val) (fun b b' h => slab_sep 8 b b' h) (slab_cover 8)
    (fun _ => Classical.arbitrary _)

def RX (hh : ℕ) : sProp 𝕄 := bigSep Finset.univ (fun k : Fin 7 => rAny (F := F) c hh k.val)

theorem open_slots (f : Buf (Elt F) ((c : Thread nD τ).loc cc0_scratch1)) :
    (((c : Thread nD τ).loc cc0_scratch1) ↦{fullShare} f : sProp 𝕄) ⊢ iprop(RX c 0 ∗ RX c 1) := by
  rw [Ring.pointsTo_blocks (ℓ := (c : Thread nD τ).loc cc0_scratch1) (fun b : Fin 2 × Fin 7 => slab 7 b.1.val b.2.val) (fun b b' h => slab_sep 7 b b' h) (slab_cover 7) f]
  refine (bigSep_mono (Ψ := fun b : Fin 2 × Fin 7 => rAny (F := F) c b.1.val b.2.val) fun b _ => ?_).trans (Entails.of_eq (two_halves _))
  show (((c : Thread nD τ).loc cc0_scratch1) ↦[slab 7 b.1.val b.2.val]{fullShare} f : sProp 𝕄) ⊢ rAny c b.1.val b.2.val
  unfold rAny
  iintro H; iexists f; iexact H

theorem close_slots : iprop(RX (F := F) c 0 ∗ RX c 1) ⊢ (iprop(∃ f, ((c : Thread nD τ).loc cc0_scratch1) ↦{fullShare} f) : sProp 𝕄) := by
  refine (Entails.of_eq (two_halves (fun b : Fin 2 × Fin 7 => rAny (F := F) c b.1.val b.2.val)).symm).trans ?_
  exact Ring.pointsTo_blocks_join_exists (ℓ := (c : Thread nD τ).loc cc0_scratch1) (fun b : Fin 2 × Fin 7 => slab 7 b.1.val b.2.val) (fun b b' h => slab_sep 7 b b' h) (slab_cover 7)
    (fun _ => Classical.arbitrary _)

end Scratch

variable (A : Inp F) (c : Dev nD)

/-! ## Into the body and out of it -/

/-- The scratch buffers at some contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The five input blocks staged. -/
def ins : sProp 𝕄 :=
  iprop(hold c cc0_stg0_0 (A.x c) ∗ hold c cc0_stg1_0 (A.wq c) ∗ hold c cc0_stg2_0 (A.wo c) ∗ hold c cc0_stg3_0 (A.k c) ∗ hold c cc0_stg4_0 (A.v c))

/-- The credit a device starts with. -/
def creds : sProp 𝕄 := iprop(cred (tallyAt (barCell c) () 7) ∗ bigSep Finset.univ (fun i : Fin 28 => cred (tallyAt (recvCell c i) () N)))

theorem sig_start : bigSep Finset.univ (fun j : Fin 7 => dutyTok ER (barCell (up c j)) 0 j)
    ⊢ iprop((RX (F := F) c 0 ∗ RX c 1) -∗ SIG c 0) := by
  unfold SIG RX sigTodo
  rw [prog_zero]
  iintro HT ⟨H0, H1⟩
  iapply (Entails.of_eq (sep7 (fun j : Fin 7 => (dutyTok ER (barCell (up c j)) 0 j : sProp 𝕄)) (fun j : Fin 7 => iprop(rAny c 0 j.val ∗ rAny c 1 j.val))).symm)
  isplitl [HT]; · iexact HT
  iapply (Entails.of_eq (sep7 (fun j : Fin 7 => rAny (F := F) c 0 j.val) (fun j : Fin 7 => rAny c 1 j.val)).symm)
  isplitl [H0]; · iexact H0
  iexact H1

theorem rw_start (q : Fin 4) : bigSep Finset.univ (fun j : Fin 7 => cred (tallyAt (recvCell c (tr q j)) () N))
    ⊢ iprop(bigSep Finset.univ (fun j : Fin 7 => atPos ER (recvCell c (tr q j)) 0 ∅ 0) -∗ RW A c q 0) := by
  unfold RW
  rw [prog_zero]
  simp only [rx_tr]
  iintro H0 H1
  iapply (Entails.of_eq (rev7 (fun j : Fin 7 => rwTodo (F := F) c (tr q j))))
  unfold rwTodo
  iapply (Entails.of_eq (sep7 (fun j : Fin 7 => (cred (tallyAt (recvCell c (tr q j)) () N) : sProp 𝕄)) (fun j : Fin 7 => atPos ER (recvCell c (tr q j)) 0 ∅ 0)).symm)
  isplitl [H0]; · iexact H0
  iexact H1

theorem tk_start : bigSep Finset.univ (fun i : Fin 28 => dutyTok ER (sendCell c i) 0 (0 : Fin 7))
    ⊢ iprop(bigSep Finset.univ (fun i : Fin 28 => dutyTok ER (recvCell (dst c i) (rx i)) 0 (0 : Fin 7)) -∗ (TK (F := F) c 0 ∗ TK c 1 ∗ TK c 2 ∗ TK c 3)) := by
  iintro H0 H1
  unfold TK
  iapply (Entails.of_eq (by_stage (fun i => toks (F := F) c i)))
  unfold toks
  rw [bigSep_sep']
  isplitl [H0]; · iexact H0
  iexact H1

theorem body_start (f : Buf (Elt F) ((c : Thread nD τ).loc cc0_stg5_0)) :
    ow c 35 ⊢ iprop(mine c -∗ creds c -∗ scr c -∗ ins A c -∗ (((c : Thread nD τ).loc cc0_stg5_0) ↦{fullShare} f) -∗ BEG A c) := by
  unfold mine creds scr ins paying BEG CH KV SP
  rw [ci_split]
  iintro Ho ⟨⟨HB, HPS, HPR⟩, HTB, HTS, HTR⟩ ⟨HcB, HcR⟩ ⟨⟨%f0, H0⟩, ⟨%f1, H1⟩, ⟨%f2, H2⟩⟩ ⟨Hx, Hq, Hw, Hk, Hv⟩ Hy
  ihave HC := (open_chunks (F := F) c f0) $$ H0
  icases HC with ⟨HC0, HC1⟩
  ihave HS := (open_slots (F := F) c f1) $$ H1
  ihave HSig := (sig_start (F := F) c) $$ HTB HS
  ihave HT := (tk_start (F := F) c) $$ HTS HTR
  icases HT with ⟨HT0, HT1, HT2, HT3⟩
  ihave HP := (Entails.of_eq (by_stage (fun i => (atPos ER (sendCell c i) 0 ∅ 0 : sProp 𝕄)))) $$ HPS
  icases HP with ⟨HP0, HP1, HP2, HP3⟩
  ihave HP' := (Entails.of_eq (by_stage (fun i => (atPos ER (recvCell c i) 0 ∅ 0 : sProp 𝕄)))) $$ HPR
  icases HP' with ⟨HR0, HR1, HR2, HR3⟩
  ihave HC' := (Entails.of_eq (by_stage (fun i => (cred (tallyAt (recvCell c i) () N) : sProp 𝕄)))) $$ HcR
  icases HC' with ⟨HK0, HK1, HK2, HK3⟩
  isplitl [Ho]; · iexact Ho
  isplitl [HSig]; · iexact HSig
  isplitl [Hx]; · iexact Hx
  isplitl [Hq]; · iexact Hq
  isplitl [Hw]; · iexact Hw
  isplitl [Hk Hv]
  · isplitl [Hk] <;> iassumption
  isplitl [H2]
  · unfold oPt hold
    iexists f2
    isplitr; · ipureintro; intro i hi; omega
    iexact H2
  isplitl [HC0]; · rw [prog_zero]; iapply (show CX (F := F) c 0 ⊢ bigSep Finset.univ (fun k : Fin 8 => cAny c (0 : Fin 2).val k.val) from .rfl) $$ HC0
  isplitl [HC1]; · rw [prog_zero]; iapply (show CX (F := F) c 1 ⊢ bigSep Finset.univ (fun k : Fin 8 => cAny c (1 : Fin 2).val k.val) from .rfl) $$ HC1
  isplitl [HcB HB]
  · isplitl [HcB] <;> iassumption
  isplitl [HT0]; · iexact HT0
  isplitl [HT1]; · iexact HT1
  isplitl [HT2]; · iexact HT2
  isplitl [HT3]; · iexact HT3
  isplitl [HP0]; · iexact HP0
  isplitl [HP1]; · iexact HP1
  isplitl [HP2]; · iexact HP2
  isplitl [HP3]; · iexact HP3
  isplitl [HK0 HR0]; · iapply (rw_start A c 0) $$ HK0 HR0
  isplitl [HK1 HR1]; · iapply (rw_start A c 1) $$ HK1 HR1
  isplitl [HK2 HR2]; · iapply (rw_start A c 2) $$ HK2 HR2
  isplitl [HK3 HR3]; · iapply (rw_start A c 3) $$ HK3 HR3
  unfold outPt hold
  iexists f
  isplitr; · ipureintro; intro i hi; omega
  iexact Hy

/-- What a device gives back besides its blocks. -/
def after : sProp 𝕄 := iprop(unscopedSems0 c ∗ owned (F := F) c ∗ scr c)

theorem body_end : FIN A c ⊢ iprop(ow c 0 ∗ ins A c ∗ hold c cc0_stg5_0 A.out ∗ after c) := by
  unfold FIN after ins scr KV
  rw [bar_unscoped, owned_eq, by_stage (fun i => (semVal (sendCell c i) 0 : sProp 𝕄)), by_stage (fun i => (semVal (recvCell c i) 0 : sProp 𝕄))]
  iintro ⟨Ho, Hx, Hq, Hw, ⟨Hk, Hv⟩, HO, HC0, HC1, HL0, HL1, HB, HS, HR, HY⟩
  isplitl [Ho]; · iexact Ho
  isplitl [Hx Hq Hw Hk Hv]
  · isplitl [Hx]; · iexact Hx
    isplitl [Hq]; · iexact Hq
    isplitl [Hw]; · iexact Hw
    isplitl [Hk] <;> iassumption
  isplitl [HY]
  · unfold outPt
    icases HY with ⟨%f, %hf, HY⟩
    rw [show f = A.out from funext fun i => hf i (by
      have h0 : (i 0).val < 2 := (i 0).isLt
      omega)]
    iexact HY
  isplitl [HB]; · iexact HB
  isplitl [HS HR]
  · isplitl [HS]; · iexact HS
    iexact HR
  isplitl [HC0 HC1]
  · iapply (close_chunks (F := F) c)
    isplitl [HC0] <;> iassumption
  isplitl [HL0 HL1]
  · iapply (close_slots (F := F) c)
    unfold RX SL
    isplitl [HL0]
    · iapply (mono7 fun j => rPt_any c (0 : Fin 2).val j.val (A.part 0 (up c j) c)) $$ HL0
    · iapply (mono7 fun j => rPt_any c (1 : Fin 2).val j.val (A.part 1 (up c j) c)) $$ HL1
  unfold oPt hold
  icases HO with ⟨%f, -, HO⟩
  iexists f
  iexact HO

end Cert.Attn

end
-- ==== Proof.Run.lean ====
/-
The run of the whole program on its eight devices, for any float values.
-/
module

public import proofs.«01_k».proof.Proof.Launch

@[expose] public section

noncomputable section

namespace Cert.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The launch memory. -/
def st : MemSt nD τ sig (Elt F) := ⟨m, fun _ => 0, ρ⟩

/-- The devices' blocks, as the windows stage them. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  k c := (win0_3.blk (0 : Fin 1)).view.read (Elt F) (m ((c : Thread nD τ).loc main_arg3))
  v c := (win0_4.blk (0 : Fin 1)).view.read (Elt F) (m ((c : Thread nD τ).loc main_arg4))

/-- What a device's pipeline starts from besides its buffers. -/
def start (c : Dev nD) : sProp 𝕄 := iprop((∃ K, known (inp m) K ∗ mine c) ∗ levAts L lv ∗ creds c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wq c
    | ⟨2, _⟩ => (inp m).wo c
    | ⟨3, _⟩ => (inp m).k c
    | ⟨4, _⟩ => (inp m).v c
    | ⟨5, _⟩ => (inp m).out
  Φ t := match t with
    | ⟨0, _⟩ => iprop(start m c ∗ scr c)
    | ⟨_ + 1, _⟩ => after c
  q _ := fullShare
  owed t := match t with
    | ⟨0, _⟩ => owe c 35
    | ⟨_ + 1, _⟩ => 0

/-- A staged block: contents that are `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem stg_hold (c : Dev nD) (b : Ref sig .tc) (X : b.ty.Contents (Elt F)) : stg c b X ⊢ hold c b X := by
  unfold stg hold
  iintro ⟨%f, %hf, H⟩
  rw [hf]; iexact H
theorem hold_stg (c : Dev nD) (b : Ref sig .tc) (X : b.ty.Contents (Elt F)) : hold c b X ⊢ stg c b X := by
  unfold stg hold
  iintro H
  iexists X
  isplitr; · ipureintro; rfl
  iexact H

/-- The body's pre- and postcondition, window by window. -/
def pre (c : Dev nD) : sProp 𝕄 :=
  iprop((start m c ∗ scr c) ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def post (c : Dev nD) : sProp 𝕄 :=
  iprop(after c ∗ (dats m 0 c).owesAt () t0_0.succ
    ∗ stg c cc0_stg0_0 ((inp m).x c) ∗ stg c cc0_stg1_0 ((inp m).wq c) ∗ stg c cc0_stg2_0 ((inp m).wo c)
    ∗ stg c cc0_stg3_0 ((inp m).k c) ∗ stg c cc0_stg4_0 ((inp m).v c) ∗ stg c cc0_stg5_0 (inp m).out)

theorem staged_in (c : Dev nD) : iprop((∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))) ⊢ ins (inp m) c := by
  have h0 (d) : (dats m 0 c).before (0 : Fin 6) t0_0 d = (inp m).x c := by unfold Dat.before; rw [if_pos (fetch0_0 t0_0)]; rfl
  have h1 (d) : (dats m 0 c).before (1 : Fin 6) t0_0 d = (inp m).wq c := by unfold Dat.before; rw [if_pos (fetch0_1 t0_0)]; rfl
  have h2 (d) : (dats m 0 c).before (2 : Fin 6) t0_0 d = (inp m).wo c := by unfold Dat.before; rw [if_pos (fetch0_2 t0_0)]; rfl
  have h3 (d) : (dats m 0 c).before (3 : Fin 6) t0_0 d = (inp m).k c := by unfold Dat.before; rw [if_pos (fetch0_3 t0_0)]; rfl
  have h4 (d) : (dats m 0 c).before (4 : Fin 6) t0_0 d = (inp m).v c := by unfold Dat.before; rw [if_pos (fetch0_4 t0_0)]; rfl
  simp only [h0, h1, h2, h3, h4]
  unfold ins
  iintro ⟨⟨%_, H0⟩, ⟨%_, H1⟩, ⟨%_, H2⟩, ⟨%_, H3⟩, ⟨%_, H4⟩⟩
  isplitl [H0]; · iapply (stg_hold c cc0_stg0_0 ((inp m).x c)) $$ H0
  isplitl [H1]; · iapply (stg_hold c cc0_stg1_0 ((inp m).wq c)) $$ H1
  isplitl [H2]; · iapply (stg_hold c cc0_stg2_0 ((inp m).wo c)) $$ H2
  isplitl [H3]; · iapply (stg_hold c cc0_stg3_0 ((inp m).k c)) $$ H3
  iapply (stg_hold c cc0_stg4_0 ((inp m).v c)) $$ H4

theorem known_ctx (K : Dev nD × CI → ℕ) : iprop(known (inp m) K ∗ levAts L lv) ⊢ ctx (inp m) K := by
  unfold known ctx
  iintro ⟨⟨H1, H2⟩, H3⟩
  isplitl [H1]; · iexact H1
  isplitl [H2]; · iexact H2
  iexact H3

theorem body_goes (c : Dev nD) : pre m c ⊢ run c (app (cc0__body (F := F))) (fun _ => post m c) := by
  unfold pre start
  iintro ⟨⟨⟨⟨%K, #HK, Hm⟩, Hl, Hcr⟩, Hs⟩, Ho, H0, H1, H2, H3, H4, H5⟩
  ihave #Hc := (known_ctx m K) $$ [Hl]
  · isplitr; · iexact HK
    iexact Hl
  ihave Hi := (staged_in m c) $$ [H0 H1 H2 H3 H4]
  · isplitl [H0]; · iexact H0
    isplitl [H1]; · iexact H1
    isplitl [H2]; · iexact H2
    isplitl [H3] <;> iassumption
  unfold stg
  icases H5 with ⟨%d, %f, -, H5⟩
  unfold Dat.owesAt Pipeline.owesWithin
  rw [show (dats m 0 c).owed t0_0.castSucc = owe c 35 from rfl]
  icases Ho with ⟨%W, -, Ho⟩
  ihave HB := (body_start (inp m) c f) $$ [Ho] Hm Hcr Hs Hi H5
  · unfold ow; iexists W; iexact Ho
  iapply (body_run (inp m) K c) $$ Hc HB
  iintro HF
  ihave HE := (body_end (inp m) c) $$ HF
  icases HE with ⟨Ho, Hi, Hy, Ha⟩
  unfold post Dat.owesAt Pipeline.owesWithin ins
  rw [show (dats m 0 c).owed t0_0.succ = 0 from rfl]
  icases Hi with ⟨H0, H1, H2, H3, H4⟩
  isplitl [Ha]; · iexact Ha
  isplitl [Ho]
  · unfold ow
    icases Ho with ⟨%W', Ho⟩
    iexists W'
    isplitr; · ipureintro; exact fun _ _ => Or.inl trivial
    iexact Ho
  isplitl [H0]; · iapply (hold_stg c cc0_stg0_0 ((inp m).x c)) $$ H0
  isplitl [H1]; · iapply (hold_stg c cc0_stg1_0 ((inp m).wq c)) $$ H1
  isplitl [H2]; · iapply (hold_stg c cc0_stg2_0 ((inp m).wo c)) $$ H2
  isplitl [H3]; · iapply (hold_stg c cc0_stg3_0 ((inp m).k c)) $$ H3
  isplitl [H4]; · iapply (hold_stg c cc0_stg4_0 ((inp m).v c)) $$ H4
  iapply (hold_stg c cc0_stg5_0 (inp m).out) $$ Hy

set_option maxRecDepth 40000 in
theorem obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_stg]
  show pre m c ⊢ wp frame (wpE (defs₀ (F := F)) 𝒱₀ c none) Set.univ
    (cc0__body xM (Memref.isWhole_whole _) wqM (Memref.isWhole_whole _) woM (Memref.isWhole_whole _) kM (Memref.isWhole_whole _) vM (Memref.isWhole_whole _)
      oM (Memref.isWhole_whole _) cM (Memref.isWhole_whole _) rM (Memref.isWhole_whole _) tM (Memref.isWhole_whole _) cc0_scratch3 cc0_scratch4) (fun _ => post m c)
  exact body_goes m c

/-! ## The launch theorem's conditions -/

theorem own_facts : Pipeline.OwnSemFacts cfg0.spec osem := by decide

theorem share_eq (c : Dev nD) (w : Fin cfg0.W) : (dats m 0 c).share w = fullShare := by unfold Dat.share; split <;> rfl

theorem start_of (c : Dev nD) :
    iprop(Pipeline.unscopedRestP Pipeline.Prefetch.none cfg0.spec c (fun b => m ((c : Thread nD τ).loc b)) ∗ levAts L lv
        ∗ Pipeline.launchCred (fun d => owe d 35) c ∗ prngReg c (ρ c) ∗ G' (inp m) c)
      ⊢ |={Set.univ}=> iprop(start m c ∗ emp) := by
  iintro ⟨-, Hl, Hcr, -, HG⟩
  ihave Hc := (credits (F := F) c) $$ Hcr
  imodintro
  unfold start G' creds
  isplitl
  · isplitl [HG]; · iexact HG
    isplitl [Hl]; · iexact Hl
    iexact Hc
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr c) from rfl, scopedRest0_eq]
  unfold scr
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq]
  unfold after scr
  exact .rfl

theorem stage_low : ∀ (w : Fin cfg0.W) (s : Fin (cfg0.win w).nbuf), ((cfg0.win w).sem s).val < 34 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_low w s) 35
    · exact mayWait_low c _ (stage_low w s) 0

/-! ## The run -/

/-- The arrays' contents after the run. -/
def final (c : Dev nD) (w : Fin cfg0.W) : Buf (Elt F) ((cfg0.win w).arr.view.loc (c : Thread nD τ)) := (dats m 0 c).arrAt w cfg0.N

def Done : PUnit × MemSt nD τ sig (Elt F) → Prop := fun r =>
  ∀ c : Dev nD, ∀ w : Fin cfg0.W, r.2.mem ((cfg0.win w).arr.view.loc (c : Thread nD τ)) = final m c w

set_option maxRecDepth 8000 in
theorem run_main : θ_run defs (onTc (τ := τ) (main (F := F))) (st m ρ) (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => (obligation m c).loose) (hne := fun w => block_pos0 w) (harr := arr_whole0) (hstage := stage_whole0) (hshare := share_eq m)
    (hdistinct := winFacts0.arr_inj)
    (O₀ := fun d => owe d 35) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (deal (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
/-
What the run leaves behind: the argument arrays as they were, the result array at its value, every counter at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent
public import Idealize.ShloMosaic.Lib.Pipeline.ValueKit

@[expose] public section

noncomputable section

namespace Cert.Attn

open Cert.KernelIdeal Cert.KernelIdeal.Gen

open Idealize.ShloMosaic Idealize.ShloMosaic.ValueIdx
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The five argument arrays end as they began. -/
theorem kept {r : PUnit × MemSt nD τ sig (Elt F)} (h : Done m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c (0 : Fin 6)).trans ((dats m 0 c).arrAt_in (0 : Fin 6) rfl _),
    (h c (1 : Fin 6)).trans ((dats m 0 c).arrAt_in (1 : Fin 6) rfl _),
    (h c (2 : Fin 6)).trans ((dats m 0 c).arrAt_in (2 : Fin 6) rfl _),
    (h c (3 : Fin 6)).trans ((dats m 0 c).arrAt_in (3 : Fin 6) rfl _),
    (h c (4 : Fin 6)).trans ((dats m 0 c).arrAt_in (4 : Fin 6) rfl _)⟩

/-- The result array ends holding the assembled output. -/
theorem result (c : Dev nD) : final m c (5 : Fin 6) = (inp m).out := by
  refine (dats m 0 c).arrAt_eq_of_after_last (5 : Fin 6) t0_0 (by decide +kernel) _ fun j => ?_
  blk_simp
  rfl

theorem inp_x (c : Dev nD) : (inp m).x c = m ((c : Thread nD τ).loc main_arg0) := by
  funext j
  show m ((c : Thread nD τ).loc main_arg0) _ = _
  blk_ext [show win0_0.index (0 : Fin 1) 0 = 0 from rfl, show win0_0.index (0 : Fin 1) 1 = 0 from rfl]
theorem inp_wq (c : Dev nD) : (inp m).wq c = m ((c : Thread nD τ).loc main_arg1) := by
  funext j
  show m ((c : Thread nD τ).loc main_arg1) _ = _
  blk_ext [show win0_1.index (0 : Fin 1) 0 = 0 from rfl, show win0_1.index (0 : Fin 1) 1 = 0 from rfl]
theorem inp_wo (c : Dev nD) : (inp m).wo c = m ((c : Thread nD τ).loc main_arg2) := by
  funext j
  show m ((c : Thread nD τ).loc main_arg2) _ = _
  blk_ext [show win0_2.index (0 : Fin 1) 0 = 0 from rfl, show win0_2.index (0 : Fin 1) 1 = 0 from rfl]
theorem inp_k (c : Dev nD) : (inp m).k c = m ((c : Thread nD τ).loc main_arg3) := by
  funext j
  show m ((c : Thread nD τ).loc main_arg3) _ = _
  blk_ext [show win0_3.index (0 : Fin 1) 0 = 0 from rfl, show win0_3.index (0 : Fin 1) 1 = 0 from rfl]
theorem inp_v (c : Dev nD) : (inp m).v c = m ((c : Thread nD τ).loc main_arg4) := by
  funext j
  show m ((c : Thread nD τ).loc main_arg4) _ = _
  blk_ext [show win0_4.index (0 : Fin 1) 0 = 0 from rfl, show win0_4.index (0 : Fin 1) 1 = 0 from rfl]

/-- The run, read at the argument arrays. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ h => ⟨fun c => kept m h.1 c, h.2⟩) (run_main (F := F) m ρ)

theorem defs₀_eq : Cert.Kernel.defs₀ (F := F) = Cert.KernelIdeal.defs₀ (F := F) := by
  unfold Cert.Kernel.defs₀ Cert.KernelIdeal.defs₀
  refine congrArg (Defs.onTc (nD := nD) (τ := τ) (sig := sig) (Λ := Cert.KernelIdeal.Λ₀)) ?_
  funext l a
  match l, a with
  | 0, (t, s) => rfl

theorem defs_eq : Cert.Kernel.defs (F := F) = Cert.KernelIdeal.defs (F := F) :=
  congrArg (Pipeline.defs (Cert.KernelIdeal.pcfgs (F := F))) defs₀_eq

theorem frame_kernel : Cert.quiescent_Kernel := fun m ρ _ => by
  have h := frame (F := Bits) m ρ
  rw [← defs_eq] at h
  exact h

theorem frame_ideal : Cert.quiescent_KernelIdeal := fun m ρ _ => frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.KVal.lean ====
/-
The kernel's result in exact arithmetic, element by element.
-/
module

public import proofs.«01_k».proof.Proof.Vals
public import Idealize.ShloMosaic.Lib.Pointwise
public import Idealize.ShloMosaic.Lib.Pointwise.IndexBridge

@[expose] public section

set_option maxRecDepth 16384

noncomputable section

namespace Cert.Attn

open Cert.KernelIdeal Cert.KernelIdeal.Gen
open Idealize.ShloMosaic

variable (A : Inp Ideal)

theorem q_at (c : Dev nD) (r : Fin 512) (e : Fin 1024) :
    A.q c (ix2 r e) = ∑ t : Fin 1024, A.x c (ix2 r t) * A.wq c (ix2 t e) := by
  pointwise [Inp.q, k0_pay2]

theorem half_at (q : FVec Ideal S512x1024 .f32) (hh : Fin 2) (r : Fin 256) (e : Fin 1024) :
    half q hh (ix2 r e) = q (ix2 ⟨256 * hh.val + r.val, by omega⟩ e) := by
  pointwise [half]

theorem headQ_at (q : FVec Ideal S256x1024 .f32) (h : Fin 8) (r : Fin 256) (d : Fin 128) :
    headQ q h (ix2 r d) = q (ix2 r ⟨128 * h.val + d.val, by omega⟩) * Ideal.ofBits .f32 0x3DB504F3#32 := by
  pointwise [headQ]

theorem headP_at (q : FVec Ideal S256x1024 .f32) (h : Fin 8) (kc : Vec Ideal S2048x128 .f32) (r : Fin 256) (j : Fin 2048) :
    headP q h kc (ix2 r j) = Ideal.exp (∑ d : Fin 128, headQ q h (ix2 r d) * kc (ix2 j d)) := by
  pointwise [headP]

theorem headV_at (q : FVec Ideal S256x1024 .f32) (h : Fin 8) (kc vc : Vec Ideal S2048x128 .f32) (r : Fin 256) (d : Fin 128) :
    headV q h kc vc (ix2 r d)
      = Ideal.div (∑ j : Fin 2048, headP q h kc (ix2 r j) * vc (ix2 j d)) (∑ j : Fin 2048, headP q h kc (ix2 r j)) := by
  pointwise [headV]

theorem chunk_at (o : Vec Ideal S256x1024 .f32) (wo : Vec Ideal S1024x1024 .f32) (k : Fin 8) (i : Fin 32) (n : Fin 1024) :
    chunk o wo k (ix4 0 0 i n) = ∑ e : Fin 1024, o (ix2 ⟨32 * k.val + i.val, by omega⟩ e) * wo (ix2 e n) := by
  pointwise [chunk, k0_pay18]

theorem redOf_at (w : Vec Ideal S1x1x32x1024 .bf16) (u : Fin 7 → Vec Ideal S1x1x32x1024 .bf16) (i : Fin 32) (n : Fin 1024) :
    redOf w u (ix4 0 0 i n) = w (ix4 0 0 i n) + ∑ r : Fin 7, u r (ix4 0 0 i n) := by
  pointwise [redOf, k0_pay62, k0_pay61]
  rw [Fin.sum_univ_seven]
  simp only [add_assoc]

theorem col_at (K : Vec Ideal S2048x1024 .f32) (h : Fin 8) (j : Fin 2048) (d : Fin 128) :
    col K h (ix2 j d) = K (ix2 j ⟨128 * h.val + d.val, by omega⟩) := by
  unfold col; rw [← ix2_eq_valueIdx]; rfl

/-- The score of a query row against a key row, in head `h` of device `c`. -/
def Inp.score (c : Dev nD) (r : Fin 512) (h : Fin 8) (j : Fin 2048) : EReal :=
  ∑ d : Fin 128, A.q c (ix2 r ⟨128 * h.val + d.val, by omega⟩) * Ideal.ofBits .f32 0x3DB504F3#32
    * A.k c (ix2 j ⟨128 * h.val + d.val, by omega⟩)

theorem o_at (hh : Fin 2) (c : Dev nD) (r : Fin 256) (e : Fin 1024) :
    A.o hh c (ix2 r e)
      = Ideal.div (∑ j : Fin 2048, Ideal.exp (A.score c ⟨256 * hh.val + r.val, by omega⟩ ⟨e.val / 128, by omega⟩ j) * A.v c (ix2 j e))
          (∑ j : Fin 2048, Ideal.exp (A.score c ⟨256 * hh.val + r.val, by omega⟩ ⟨e.val / 128, by omega⟩ j)) := by
  have hP (h : Fin 8) (j : Fin 2048) : headP (half (A.q c) hh) h (col (A.k c) h) (ix2 r j)
      = Ideal.exp (A.score c ⟨256 * hh.val + r.val, by omega⟩ h j) := by
    rw [headP_at]; simp only [headQ_at, half_at, col_at]; rfl
  have he : (⟨128 * (e.val / 128) + e.val % 128, by omega⟩ : Fin 1024) = e := Fin.ext (Nat.div_add_mod _ _)
  unfold Inp.o heads
  rw [← ix2_eq_valueIdx]
  show headV (half (A.q c) hh) ⟨e.val / 128, by omega⟩ (col (A.k c) ⟨e.val / 128, by omega⟩) (col (A.v c) ⟨e.val / 128, by omega⟩)
    (ix2 r ⟨e.val % 128, Nat.mod_lt _ (by decide)⟩) = _
  rw [headV_at]
  simp only [hP, col_at, he]

/-- One device's share of a result element. -/
def Inp.share (hh : Fin 2) (k : Dev nD) (i : Fin 32) (n : Fin 1024) (c : Dev nD) : EReal :=
  ∑ e : Fin 1024, A.o hh c (ix2 ⟨32 * k.val + i.val, by have : k.val < 8 := k.isLt; omega⟩ e) * A.wo c (ix2 e n)

theorem part_at (hh : Fin 2) (k : Dev nD) (i : Fin 32) (n : Fin 1024) (c : Dev nD) :
    A.part hh c k (ix4 0 0 i n) = A.share hh k i n c := chunk_at _ _ _ _ _

/-- A device and the seven after it are the eight devices. -/
theorem all_devices (f : Dev nD → EReal) (k : Dev nD) : f k + ∑ r : Fin 7, f (up k r) = ∑ c, f c := by
  have h1 : ∀ k : Dev nD, (Finset.univ : Finset (Dev nD)) = insert k (Finset.univ.image (up k)) := by decide
  have h2 : ∀ k : Dev nD, k ∉ Finset.univ.image (up k) := by decide
  have h3 : ∀ (k : Dev nD) (a b : Fin 7), up k a = up k b → a = b := by decide
  rw [h1 k, Finset.sum_insert (h2 k), Finset.sum_image fun a _ b _ h => h3 k a b h]

theorem out_at (hh : Fin 2) (k : Fin 8) (i : Fin 32) (n : Fin 1024) :
    A.out (ix4 hh k i n) = ∑ c : Dev nD, A.share hh k i n c := by
  unfold Inp.out
  rw [← ix4_eq_valueIdx]
  show widen (A.red hh k) (ix4 0 0 i n) = _
  have hw (w : Vec Ideal S1x1x32x1024 .bf16) : widen w (ix4 0 0 i n) = w (ix4 0 0 i n) := by
    pointwise [widen, k0_pay1]
  rw [hw]; unfold Inp.red
  rw [redOf_at]
  simp only [part_at]
  exact all_devices (A.share hh k i n) k

end Cert.Attn

end
-- ==== Proof.RVal.lean ====
/-
The reference's result in exact arithmetic, element by element.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Attn

open Cert.ReferenceIdeal Cert.ReferenceIdeal.Gen
open Idealize.ShloMosaic

/-- The running maximum's starting value. -/
abbrev bot : EReal := Ideal.ofBits .f32 0xFF800000#32

/-- The running maximum after the scores `s`, from `m`. -/
def top (m : EReal) (s : Fin 1024 → EReal) : EReal := max m (Finset.univ.fold max bot s)

/-- The numerator after two chunks of scores, the rescaling done chunk by chunk. -/
def num (s₁ s₂ v₁ v₂ : Fin 1024 → EReal) : EReal :=
  (0 * Ideal.exp (bot - top bot s₁) + ∑ j, v₁ j * Ideal.exp (s₁ j - top bot s₁)) * Ideal.exp (top bot s₁ - top (top bot s₁) s₂)
    + ∑ j, v₂ j * Ideal.exp (s₂ j - top (top bot s₁) s₂)

/-- The denominator after two chunks of scores. -/
def den (s₁ s₂ : Fin 1024 → EReal) : EReal :=
  (0 * Ideal.exp (bot - top bot s₁) + ∑ j, Ideal.exp (s₁ j - top bot s₁)) * Ideal.exp (top bot s₁ - top (top bot s₁) s₂)
    + ∑ j, Ideal.exp (s₂ j - top (top bot s₁) s₂)

/-- A projected query. -/
def rq (X : FVec Ideal S512x1024 .f32) (WQ : FVec Ideal S1024x8192 .f32) (r : Fin 512) (e : Fin 8192) : EReal :=
  ∑ t : Fin 1024, X (ix2 r t) * WQ (ix2 t e)

/-- A score of head `h`. -/
def rscore (X : FVec Ideal S512x1024 .f32) (WQ : FVec Ideal S1024x8192 .f32) (K : FVec Ideal S2048x8192 .f32)
    (r : Fin 512) (h : Fin 64) (j : Fin 2048) : EReal :=
  (∑ d : Fin 128, rq X WQ r ⟨h.val * 128 + d.val, by omega⟩ * K (ix2 j ⟨h.val * 128 + d.val, by omega⟩))
    * Ideal.ofBits .f32 0x3DB504F3#32

/-- An attention row's element. -/
def ro (X : FVec Ideal S512x1024 .f32) (WQ : FVec Ideal S1024x8192 .f32) (K V : FVec Ideal S2048x8192 .f32)
    (r : Fin 512) (e : Fin 8192) : EReal :=
  Ideal.div
    (num (fun j => rscore X WQ K r ⟨e.val / 128, by omega⟩ ⟨j.val, by omega⟩)
      (fun j => rscore X WQ K r ⟨e.val / 128, by omega⟩ ⟨1024 + j.val, by omega⟩)
      (fun j => V (ix2 ⟨j.val, by omega⟩ e)) (fun j => V (ix2 ⟨1024 + j.val, by omega⟩ e)))
    (den (fun j => rscore X WQ K r ⟨e.val / 128, by omega⟩ ⟨j.val, by omega⟩)
      (fun j => rscore X WQ K r ⟨e.val / 128, by omega⟩ ⟨1024 + j.val, by omega⟩))

/-! ## The reference's operations, stage by stage -/

abbrev VQ := FVec Ideal S1x512x64x128 .f32
abbrev VC := FVec Ideal S1x1024x64x128 .f32
abbrev VS := FVec Ideal S1x64x512x1024 .f32
abbrev VR := FVec Ideal S1x64x512x1 .f32

def vq (X : FVec Ideal S512x1024 .f32) (WQ : FVec Ideal S1024x8192 .f32) : VQ :=
  shapeCast _ (Host.dotGeneral dot_S1x512x1024_S1024x8192_S1x512x8192_2_0_01_1_n_n none
    (shapeCast _ X shapeCasts_S512x1024_S1x512x1024) WQ) shapeCasts_S1x512x8192_S1x512x64x128

def vlo (K : FVec Ideal S2048x8192 .f32) : VC :=
  extractStridedSlice S1x1024x64x128 ![0, 0, 0, 0] (shapeCast _ K shapeCasts_S2048x8192_S1x2048x64x128)
    slices_S1x2048x64x128_S1x1024x64x128_0_0_0_0

def vhi (K : FVec Ideal S2048x8192 .f32) : VC :=
  extractStridedSlice S1x1024x64x128 ![0, 1024, 0, 0] (shapeCast _ K shapeCasts_S2048x8192_S1x2048x64x128)
    slices_S1x2048x64x128_S1x1024x64x128_0_1024_0_0

def vs (q : VQ) (k : VC) : VS :=
  mulf (Host.dotGeneral dot_S1x512x64x128_S1x1024x64x128_S1x64x512x1024_3_3_1_1_02_02 none q k)
    (broadcastInDim S1x64x512x1024 ![] bcast_S_S1x64x512x1024 (constant S_ .f32 0x3DB504F3#32))

def vbot : VR := broadcastInDim S1x64x512x1 ![] bcast_S_S1x64x512x1 (constant S_ .f32 0xFF800000#32)

def vtop (m : VR) (s : VS) : VR :=
  maximumf m (broadcastInDim S1x64x512x1 ![0, 1, 2] bcast_S1x64x512_S1x64x512x1_0_1_2
    (Host.reduce FloatOps.maximumf s (constant S_ .f32 0xFF800000#32) reducesTo_S1x64x512x1024_S1x64x512_d3 h_S_))

def valpha (m m' : VR) : VR := Host.exp (subf m m')

def vp (s : VS) (m' : VR) : VS :=
  Host.exp (subf s (broadcastInDim S1x64x512x1024 ![0, 1, 2, 3] bcast_S1x64x512x1_S1x64x512x1024_0_1_2_3 m'))

def vden (l al : VR) (p : VS) : VR :=
  addf (mulf l al) (broadcastInDim S1x64x512x1 ![0, 1, 2] bcast_S1x64x512_S1x64x512x1_0_1_2
    (Host.reduceAdd p (constant S_ .f32 0x00000000#32) reducesTo_S1x64x512x1024_S1x64x512_d3 h_S_))

def vwide (a : VR) : VQ :=
  broadcastInDim S1x512x64x128 ![0, 1, 2, 3] bcast_S1x512x64x1_S1x512x64x128_0_1_2_3
    (transpose S1x512x64x1 [0, 2, 1, 3] a transposes_S1x64x512x1_S1x512x64x1_0_2_1_3)

def vnum (o : VQ) (al : VR) (p : VS) (v : VC) : VQ :=
  addf (mulf o (vwide al)) (transpose S1x512x64x128 [0, 3, 1, 2]
    (Host.dotGeneral dot_S1x1024x64x128_S1x64x512x1024_S1x64x128x512_1_3_3_2_02_01 none v p)
    transposes_S1x64x128x512_S1x512x64x128_0_3_1_2)

def vout (o : VQ) (l : VR) (WO : FVec Ideal S8192x1024 .f32) : FVec Ideal S2x8x32x1024 .f32 :=
  shapeCast _ (Host.dotGeneral dot_S1x512x8192_S8192x1024_S1x512x1024_2_0_01_1_n_n none
    (shapeCast _ (Host.divf o (vwide l)) shapeCasts_S1x512x64x128_S1x512x8192) WO) shapeCasts_S1x512x1024_S2x8x32x1024

def vzo : VQ := broadcastInDim S1x512x64x128 ![] bcast_S_S1x512x64x128 (constant S_ .f32 0x00000000#32)

def vzl : VR := broadcastInDim S1x64x512x1 ![] bcast_S_S1x64x512x1 (constant S_ .f32 0x00000000#32)

/-- The two chunks one after the other. -/
def vall (s₁ s₂ : VS) (v₁ v₂ : VC) (WO : FVec Ideal S8192x1024 .f32) : FVec Ideal S2x8x32x1024 .f32 :=
  vout
    (vnum (vnum vzo (valpha vbot (vtop vbot s₁)) (vp s₁ (vtop vbot s₁)) v₁)
      (valpha (vtop vbot s₁) (vtop (vtop vbot s₁) s₂)) (vp s₂ (vtop (vtop vbot s₁) s₂)) v₂)
    (vden (vden vzl (valpha vbot (vtop vbot s₁)) (vp s₁ (vtop vbot s₁)))
      (valpha (vtop vbot s₁) (vtop (vtop vbot s₁) s₂)) (vp s₂ (vtop (vtop vbot s₁) s₂)))
    WO

theorem vq_at (X : FVec Ideal S512x1024 .f32) (WQ : FVec Ideal S1024x8192 .f32) (r : Fin 512) (h : Fin 64) (d : Fin 128) :
    vq X WQ (ix4 0 r h d) = rq X WQ r ⟨h.val * 128 + d.val, by omega⟩ := by
  unfold rq; pointwise [vq]

theorem vlo_at (K : FVec Ideal S2048x8192 .f32) (j : Fin 1024) (h : Fin 64) (d : Fin 128) :
    vlo K (ix4 0 j h d) = K (ix2 ⟨j.val, by omega⟩ ⟨h.val * 128 + d.val, by omega⟩) := by
  pointwise [vlo]

theorem vhi_at (K : FVec Ideal S2048x8192 .f32) (j : Fin 1024) (h : Fin 64) (d : Fin 128) :
    vhi K (ix4 0 j h d) = K (ix2 ⟨1024 + j.val, by omega⟩ ⟨h.val * 128 + d.val, by omega⟩) := by
  pointwise [vhi]

theorem vs_at (q : VQ) (k : VC) (h : Fin 64) (r : Fin 512) (j : Fin 1024) :
    vs q k (ix4 0 h r j) = (∑ d : Fin 128, q (ix4 0 r h d) * k (ix4 0 j h d)) * Ideal.ofBits .f32 0x3DB504F3#32 := by
  pointwise [vs]

theorem vbot_at (h : Fin 64) (r : Fin 512) : vbot (ix4 0 h r 0) = bot := by
  pointwise [vbot]

theorem reduces_keys : S1x64x512x1024.Reduces [3] S1x64x512 := by decide

theorem rowmax_at (s : VS) (c : FVec Ideal S_ .f32) (h : Fin 64) (r : Fin 512) :
    Host.reduce FloatOps.maximumf s c reducesTo_S1x64x512x1024_S1x64x512_d3 h_S_ (ix3 0 h r)
      = Finset.univ.fold max (c (Shape.Idx.first h_S_)) (fun j : Fin 1024 => s (ix4 0 h r j)) := by
  rw [Host.reduce_eq_fold_single FloatOps.maximumf s c _ reduces_keys h_S_]
  refine congrArg (fun f => Finset.univ.fold max (c (Shape.Idx.first h_S_)) f) (funext fun j => congrArg s ?_)
  funext a
  match a with
  | 0 => rfl
  | 1 => rfl
  | 2 => rfl
  | 3 => rfl

/-- A column per row, from one number per row. -/
def vcol (a : FVec Ideal S1x64x512 .f32) : VR := broadcastInDim S1x64x512x1 ![0, 1, 2] bcast_S1x64x512_S1x64x512x1_0_1_2 a

theorem vcol_at (a : FVec Ideal S1x64x512 .f32) (h : Fin 64) (r : Fin 512) : vcol a (ix4 0 h r 0) = a (ix3 0 h r) := by
  pointwise [vcol]

theorem vtop_at (m : VR) (s : VS) (h : Fin 64) (r : Fin 512) :
    vtop m s (ix4 0 h r 0) = top (m (ix4 0 h r 0)) (fun j => s (ix4 0 h r j)) :=
  congrArg (max (m (ix4 0 h r 0))) ((vcol_at _ h r).trans (rowmax_at s (constant S_ .f32 0xFF800000#32) h r))

theorem valpha_at (m m' : VR) (h : Fin 64) (r : Fin 512) :
    valpha m m' (ix4 0 h r 0) = Ideal.exp (m (ix4 0 h r 0) - m' (ix4 0 h r 0)) := by
  pointwise [valpha]

theorem vp_at (s : VS) (m' : VR) (h : Fin 64) (r : Fin 512) (j : Fin 1024) :
    vp s m' (ix4 0 h r j) = Ideal.exp (s (ix4 0 h r j) - m' (ix4 0 h r 0)) := by
  pointwise [vp]

theorem vden_at (l al : VR) (p : VS) (h : Fin 64) (r : Fin 512) :
    vden l al p (ix4 0 h r 0) = l (ix4 0 h r 0) * al (ix4 0 h r 0) + ∑ j : Fin 1024, p (ix4 0 h r j) := by
  pointwise [vden]

theorem vwide_at (a : VR) (r : Fin 512) (h : Fin 64) (d : Fin 128) : vwide a (ix4 0 r h d) = a (ix4 0 h r 0) := by
  pointwise [vwide]

theorem vnum_at (o : VQ) (al : VR) (p : VS) (v : VC) (r : Fin 512) (h : Fin 64) (d : Fin 128) :
    vnum o al p v (ix4 0 r h d)
      = o (ix4 0 r h d) * al (ix4 0 h r 0) + ∑ j : Fin 1024, v (ix4 0 j h d) * p (ix4 0 h r j) := by
  pointwise [vnum, vwide]

theorem vout_at (o : VQ) (l : VR) (WO : FVec Ideal S8192x1024 .f32) (hh : Fin 2) (k : Fin 8) (i : Fin 32) (n : Fin 1024) :
    vout o l WO (ix4 hh k i n) = ∑ e : Fin 8192,
      Ideal.div (o (ix4 0 ⟨hh.val * 256 + k.val * 32 + i.val, by omega⟩ ⟨e.val / 128, by omega⟩ ⟨e.val % 128, Nat.mod_lt _ (by decide)⟩))
        (l (ix4 0 ⟨e.val / 128, by omega⟩ ⟨hh.val * 256 + k.val * 32 + i.val, by omega⟩ 0)) * WO (ix2 e n) := by
  pointwise [vout, vwide]

theorem vzo_at (r : Fin 512) (h : Fin 64) (d : Fin 128) : vzo (ix4 0 r h d) = 0 := by
  pointwise [vzo]

theorem vzl_at (h : Fin 64) (r : Fin 512) : vzl (ix4 0 h r 0) = 0 := by
  pointwise [vzl]

theorem vall_at (s₁ s₂ : VS) (v₁ v₂ : VC) (WO : FVec Ideal S8192x1024 .f32) (hh : Fin 2) (k : Fin 8) (i : Fin 32) (n : Fin 1024) :
    vall s₁ s₂ v₁ v₂ WO (ix4 hh k i n) = ∑ e : Fin 8192, Ideal.div
      (num (fun j => s₁ (ix4 0 ⟨e.val / 128, by omega⟩ ⟨hh.val * 256 + k.val * 32 + i.val, by omega⟩ j))
        (fun j => s₂ (ix4 0 ⟨e.val / 128, by omega⟩ ⟨hh.val * 256 + k.val * 32 + i.val, by omega⟩ j))
        (fun j => v₁ (ix4 0 j ⟨e.val / 128, by omega⟩ ⟨e.val % 128, Nat.mod_lt _ (by decide)⟩))
        (fun j => v₂ (ix4 0 j ⟨e.val / 128, by omega⟩ ⟨e.val % 128, Nat.mod_lt _ (by decide)⟩)))
      (den (fun j => s₁ (ix4 0 ⟨e.val / 128, by omega⟩ ⟨hh.val * 256 + k.val * 32 + i.val, by omega⟩ j))
        (fun j => s₂ (ix4 0 ⟨e.val / 128, by omega⟩ ⟨hh.val * 256 + k.val * 32 + i.val, by omega⟩ j))) * WO (ix2 e n) := by
  unfold vall
  rw [vout_at]
  simp only [vnum_at, vden_at, valpha_at, vp_at, vtop_at, vbot_at, vzo_at, vzl_at, num, den]

variable (m : (ℓ : Loc nD τ sig) → Buf (Elt Ideal) ℓ)

theorem ref_eq : Cert.ReferenceIdeal.Value.res_main_v59 m 0
    = vall (vs (vq (m ((Dev.tc 0).loc main_arg0)) (m ((Dev.tc 0).loc main_arg1))) (vlo (m ((Dev.tc 0).loc main_arg3))))
        (vs (vq (m ((Dev.tc 0).loc main_arg0)) (m ((Dev.tc 0).loc main_arg1))) (vhi (m ((Dev.tc 0).loc main_arg3))))
        (vlo (m ((Dev.tc 0).loc main_arg4))) (vhi (m ((Dev.tc 0).loc main_arg4))) (m ((Dev.tc 0).loc main_arg2)) := by
  unfold Cert.ReferenceIdeal.Value.res_main_v59 vall
  rfl

theorem rall_at (X : FVec Ideal S512x1024 .f32) (WQ : FVec Ideal S1024x8192 .f32) (WO : FVec Ideal S8192x1024 .f32)
    (K V : FVec Ideal S2048x8192 .f32) (hh : Fin 2) (k : Fin 8) (i : Fin 32) (n : Fin 1024) :
    vall (vs (vq X WQ) (vlo K)) (vs (vq X WQ) (vhi K)) (vlo V) (vhi V) WO (ix4 hh k i n)
      = ∑ e : Fin 8192, ro X WQ K V ⟨hh.val * 256 + k.val * 32 + i.val, by omega⟩ e * WO (ix2 e n) := by
  rw [vall_at]
  refine Finset.sum_congr rfl fun e _ => ?_
  have he : (⟨e.val / 128 * 128 + e.val % 128, by omega⟩ : Fin 8192) = e := Fin.ext (Nat.div_add_mod' _ _)
  simp only [vs_at, vq_at, vlo_at, vhi_at, he, ro, rscore]

end Cert.Attn

end
-- ==== Proof.Soft.lean ====
/-
The chunked quotient of the reference equals the plain quotient when the scores are real numbers.
-/
module

public import proofs.«01_k».proof.Proof.RVal

@[expose] public section

noncomputable section

namespace Cert.Attn

open Idealize.ShloMosaic

theorem bot_lt : bot < ⊤ := by
  have h : bot = ⊥ := by simp [bot, Ideal.ofBits, Ideal.ieee]
  rw [h]; exact bot_lt_top

/-- The scores' scale is a nonnegative real number. -/
theorem scale_real : ∃ r : ℝ, 0 ≤ r ∧ Ideal.ofBits .f32 0x3DB504F3#32 = (r : EReal) :=
  ⟨(11863283 : ℝ) * (2 ^ 27 : ℝ)⁻¹, by positivity, by simp [Ideal.ofBits, Ideal.ieee]⟩

theorem top_real (m : EReal) (hm : m < ⊤) (t : Fin 1024 → ℝ) : ∃ M : ℝ, top m (fun j => (t j : EReal)) = M := by
  have h1 : top m (fun j => (t j : EReal)) < ⊤ :=
    max_lt hm ((Finset.fold_max_lt _).2 ⟨bot_lt, fun j _ => EReal.coe_lt_top _⟩)
  have h2 : (t 0 : EReal) ≤ top m (fun j => (t j : EReal)) :=
    le_trans ((Finset.le_fold_max _).2 (.inr ⟨0, Finset.mem_univ _, le_refl _⟩)) (le_max_right _ _)
  exact ⟨_, (EReal.coe_toReal h1.ne ((EReal.bot_lt_coe _).trans_le h2).ne').symm⟩

theorem sum_coe {n : Nat} (f : Fin n → ℝ) : ∑ j, (f j : EReal) = ((∑ j, f j : ℝ) : EReal) :=
  (map_sum (⟨⟨fun r : ℝ => (r : EReal), EReal.coe_zero⟩, EReal.coe_add⟩ : ℝ →+ EReal) f Finset.univ).symm

/-- A nonnegative real factor goes into a sum. -/
theorem sum_scale {n : Nat} (f : Fin n → EReal) (r : ℝ) (hr : 0 ≤ r) : (∑ j, f j) * (r : EReal) = ∑ j, f j * (r : EReal) :=
  map_sum (⟨⟨fun x : EReal => x * (r : EReal), zero_mul _⟩, fun x y =>
    EReal.right_distrib_of_nonneg_of_ne_top (EReal.coe_nonneg.2 hr) (EReal.coe_ne_top r) x y⟩ : EReal →+ EReal) f Finset.univ

theorem exp_shift (a b : ℝ) : Ideal.exp ((a : EReal) - (b : EReal)) = ((Real.exp a * Real.exp (-b) : ℝ) : EReal) := by
  rw [← EReal.coe_sub, ← Real.exp_add, ← sub_eq_add_neg]; rfl

theorem div_scale (N : EReal) (L E : ℝ) (hL : 0 < L) (hE : 0 < E) :
    Ideal.div (N * (E : EReal)) ((L : EReal) * (E : EReal)) = Ideal.div N (L : EReal) := by
  have h1 : (L : EReal) ≠ 0 := EReal.coe_ne_zero.2 hL.ne'
  have h2 : ((L * E : ℝ) : EReal) ≠ 0 := EReal.coe_ne_zero.2 (mul_pos hL hE).ne'
  rw [← EReal.coe_mul, Ideal.div, Ideal.div, if_neg h1, if_neg h2, ← EReal.coe_inv, ← EReal.coe_inv, mul_assoc, ← EReal.coe_mul]
  congr 2
  field_simp

theorem weights (t : Fin 1024 → ℝ) (v : Fin 1024 → EReal) (M : ℝ) :
    ∑ j, v j * Ideal.exp ((t j : EReal) - (M : EReal))
      = (∑ j, Ideal.exp (t j : EReal) * v j) * ((Real.exp (-M) : ℝ) : EReal) := by
  rw [sum_scale _ _ (Real.exp_pos _).le]
  refine Finset.sum_congr rfl fun j _ => ?_
  rw [exp_shift, EReal.coe_mul, ← mul_assoc, mul_comm (v j)]; rfl

theorem soft (t₁ t₂ : Fin 1024 → ℝ) (v₁ v₂ : Fin 1024 → EReal) :
    Ideal.div (num (fun j => (t₁ j : EReal)) (fun j => (t₂ j : EReal)) v₁ v₂) (den (fun j => (t₁ j : EReal)) (fun j => (t₂ j : EReal)))
      = Ideal.div (∑ j, Ideal.exp (t₁ j : EReal) * v₁ j + ∑ j, Ideal.exp (t₂ j : EReal) * v₂ j)
          (∑ j, Ideal.exp (t₁ j : EReal) + ∑ j, Ideal.exp (t₂ j : EReal)) := by
  obtain ⟨M₁, h₁⟩ := top_real bot bot_lt t₁
  obtain ⟨M₂, h₂⟩ := top_real (M₁ : EReal) (EReal.coe_lt_top _) t₂
  have hr {a b : EReal} (r : ℝ) (h : 0 ≤ r) := EReal.right_distrib_of_nonneg_of_ne_top (EReal.coe_nonneg.2 h) (EReal.coe_ne_top r) a b
  have hN (v₁ v₂ : Fin 1024 → EReal) : num (fun j => (t₁ j : EReal)) (fun j => (t₂ j : EReal)) v₁ v₂
      = (∑ j, Ideal.exp (t₁ j : EReal) * v₁ j + ∑ j, Ideal.exp (t₂ j : EReal) * v₂ j) * ((Real.exp (-M₂) : ℝ) : EReal) := by
    rw [num, h₁, h₂, zero_mul, zero_add, weights, weights, exp_shift, hr _ (Real.exp_pos _).le, mul_assoc, ← EReal.coe_mul,
      ← mul_assoc, ← Real.exp_add, neg_add_cancel, Real.exp_zero, one_mul]
  have hD : den (fun j => (t₁ j : EReal)) (fun j => (t₂ j : EReal))
      = num (fun j => (t₁ j : EReal)) (fun j => (t₂ j : EReal)) (fun _ => 1) (fun _ => 1) := by
    simp only [num, den, one_mul]
  have hL : ∑ j, Ideal.exp (t₁ j : EReal) + ∑ j, Ideal.exp (t₂ j : EReal)
      = ((∑ j, Real.exp (t₁ j) + ∑ j, Real.exp (t₂ j) : ℝ) : EReal) := by
    rw [EReal.coe_add, ← sum_coe, ← sum_coe]; rfl
  rw [hD, hN, hN]
  simp only [mul_one]
  rw [hL, div_scale _ _ _ (add_pos (Finset.sum_pos (fun j _ => Real.exp_pos _) ⟨0, Finset.mem_univ _⟩)
    (Finset.sum_pos (fun j _ => Real.exp_pos _) ⟨0, Finset.mem_univ _⟩)) (Real.exp_pos _)]

end Cert.Attn

end
-- ==== Proof.Tie.lean ====
/-
The kernel's result and the reference's are the same function of the whole arrays.
-/
module

public import proofs.«01_k».proof.Proof.KVal
public import proofs.«01_k».proof.Proof.Soft
public import Idealize.ShloMosaic.Lib.Pipeline.ValueKit

@[expose] public section

set_option maxRecDepth 16384

noncomputable section

namespace Cert.Attn

open Cert.KernelIdeal (nD)
open Idealize.ShloMosaic

/-- The devices' blocks `A` are the parts of the whole arrays. -/
structure Parts (A : Inp Ideal) (X : FVec Ideal Cert.ReferenceIdeal.S512x1024 .f32) (WQ : FVec Ideal Cert.ReferenceIdeal.S1024x8192 .f32)
    (WO : FVec Ideal Cert.ReferenceIdeal.S8192x1024 .f32) (K V : FVec Ideal Cert.ReferenceIdeal.S2048x8192 .f32) : Prop where
  x : ∀ (c : Fin 8) (r : Fin 512) (t : Fin 1024), A.x c (ix2 r t) = X (ix2 r t)
  wq : ∀ (c : Fin 8) (t e : Fin 1024), A.wq c (ix2 t e) = WQ (ix2 t ⟨c.val * 1024 + e.val, by omega⟩)
  wo : ∀ (c : Fin 8) (e n : Fin 1024), A.wo c (ix2 e n) = WO (ix2 ⟨c.val * 1024 + e.val, by omega⟩ n)
  k : ∀ (c : Fin 8) (j : Fin 2048) (e : Fin 1024), A.k c (ix2 j e) = K (ix2 j ⟨c.val * 1024 + e.val, by omega⟩)
  v : ∀ (c : Fin 8) (j : Fin 2048) (e : Fin 1024), A.v c (ix2 j e) = V (ix2 j ⟨c.val * 1024 + e.val, by omega⟩)

variable {A : Inp Ideal} {X : FVec Ideal Cert.ReferenceIdeal.S512x1024 .f32} {WQ : FVec Ideal Cert.ReferenceIdeal.S1024x8192 .f32}
  {WO : FVec Ideal Cert.ReferenceIdeal.S8192x1024 .f32} {K V : FVec Ideal Cert.ReferenceIdeal.S2048x8192 .f32}

theorem score_eq (hA : Parts A X WQ WO K V) (c : Fin 8) (r : Fin 512) (h : Fin 8) (j : Fin 2048) :
    A.score c r h j = rscore X WQ K r ⟨c.val * 8 + h.val, by omega⟩ j := by
  obtain ⟨σ, h0, hσ⟩ := scale_real
  unfold Inp.score rscore
  rw [hσ, sum_scale _ _ h0]
  refine Finset.sum_congr rfl fun d _ => ?_
  have he : (⟨c.val * 1024 + (128 * h.val + d.val), by omega⟩ : Fin 8192) = ⟨(c.val * 8 + h.val) * 128 + d.val, by omega⟩ :=
    Fin.ext (by show c.val * 1024 + (128 * h.val + d.val) = (c.val * 8 + h.val) * 128 + d.val; omega)
  rw [q_at, hA.k c, mul_right_comm]
  simp only [hA.x c, hA.wq c, he]
  rfl

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem sum_real {n : Nat} {f : Fin n → EReal} (h : ∀ j, ∃ r : ℝ, f j = r) : ∃ r : ℝ, ∑ j, f j = r := by
  choose g hg using h
  exact ⟨∑ j, g j, by simp only [hg, sum_coe]⟩

theorem score_real (hX : ∀ r t, ∃ a : ℝ, X (ix2 r t) = a) (hQ : ∀ t e, ∃ a : ℝ, WQ (ix2 t e) = a)
    (hK : ∀ j e, ∃ a : ℝ, K (ix2 j e) = a) (r : Fin 512) (h : Fin 64) (j : Fin 2048) : ∃ a : ℝ, rscore X WQ K r h j = a := by
  obtain ⟨σ, -, hσ⟩ := scale_real
  exact mul_real (sum_real fun d => mul_real (sum_real fun t => mul_real (hX _ _) (hQ _ _)) (hK _ _)) ⟨σ, hσ⟩

theorem row_eq (hA : Parts A X WQ WO K V) (hX : ∀ r t, ∃ a : ℝ, X (ix2 r t) = a) (hQ : ∀ t e, ∃ a : ℝ, WQ (ix2 t e) = a)
    (hK : ∀ j e, ∃ a : ℝ, K (ix2 j e) = a) (hh : Fin 2) (c : Fin 8) (r : Fin 256) (e : Fin 1024) :
    A.o hh c (ix2 r e) = ro X WQ K V ⟨256 * hh.val + r.val, by omega⟩ ⟨c.val * 1024 + e.val, by omega⟩ := by
  have hd : (⟨c.val * 8 + e.val / 128, by omega⟩ : Fin 64) = ⟨(c.val * 1024 + e.val) / 128, by omega⟩ :=
    Fin.ext (by show c.val * 8 + e.val / 128 = (c.val * 1024 + e.val) / 128; omega)
  rw [o_at]
  simp only [score_eq hA, hA.v c, hd, ro]
  choose t ht using score_real hX hQ hK ⟨256 * hh.val + r.val, by omega⟩ ⟨(c.val * 1024 + e.val) / 128, by omega⟩
  simp only [ht]
  rw [soft, Fin.sum_univ_two_halves 1024 1024 rfl, Fin.sum_univ_two_halves 1024 1024 rfl]

theorem whole_eq (hA : Parts A X WQ WO K V) (hX : ∀ r t, ∃ a : ℝ, X (ix2 r t) = a) (hQ : ∀ t e, ∃ a : ℝ, WQ (ix2 t e) = a)
    (hK : ∀ j e, ∃ a : ℝ, K (ix2 j e) = a) :
    A.out = vall (vs (vq X WQ) (vlo K)) (vs (vq X WQ) (vhi K)) (vlo V) (vhi V) WO := by
  refine funext fun p => ?_
  obtain ⟨hh, k, i, n, rfl⟩ : ∃ (hh : Fin 2) (k : Fin 8) (i : Fin 32) (n : Fin 1024), p = ix4 hh k i n :=
    ⟨p 0, p 1, p 2, p 3, by funext a; match a with | 0 => rfl | 1 => rfl | 2 => rfl | 3 => rfl⟩
  rw [out_at, rall_at]
  refine Fin.sum_mul_add_congr fun c e hl => ?_
  rw [row_eq hA hX hQ hK, hA.wo c]
  have hr : (⟨256 * hh.val + (32 * k.val + i.val), by omega⟩ : Fin 512) = ⟨hh.val * 256 + k.val * 32 + i.val, by omega⟩ :=
    Fin.ext (by show 256 * hh.val + (32 * k.val + i.val) = hh.val * 256 + k.val * 32 + i.val; omega)
  rw [hr]

end Cert.Attn

end
-- ==== Proof.Value.lean ====
/-
The value claim: on devices holding the parts of whole arrays, with finite inputs to the scores, every device's result is
the reference's.
-/
module

public import proofs.«01_k».proof.Proof.Frames
public import proofs.«01_k».proof.Proof.Tie
public import proofs.«01_k».proof.Proof.Gen.Pre_scores_finite_KernelIdeal
public import Idealize.ShloMosaic.Lib.Tactic.CleanTypes

@[expose] public section

set_option maxRecDepth 16384

noncomputable section

namespace Cert.Attn

open Idealize.ShloMosaic
open Idealize.SL.Sem

/-- A number below infinity in absolute value is a real number. -/
theorem real_of_test (a : EReal) (h : Ideal.cmp .olt (max a (-a)) (Ideal.ofBits .f32 0x7F800000#32) = 1#1) :
    ∃ r : ℝ, a = r := by
  have ht : Ideal.ofBits .f32 0x7F800000#32 = ⊤ := by simp [Ideal.ofBits, Ideal.ieee]
  rw [ht] at h
  have hlt : max a (-a) < ⊤ := by
    by_contra hn
    rw [Ideal.cmp, decide_eq_false hn] at h
    exact absurd h (by decide)
  induction a using EReal.rec with
  | bot => simp at hlt
  | top => simp at hlt
  | coe r => exact ⟨r, rfl⟩

section
variable [Cert.Pre_scores_finite_KernelIdeal.Facts]
open Cert.Pre_scores_finite_KernelIdeal

theorem finite_of_pre (a0 : FVec Ideal S512x1024 .f32) (a1 a2 : FVec Ideal S1024x1024 .f32) (a3 a4 : FVec Ideal S2048x1024 .f32)
    (h0 : (fn (F := Ideal) a0 a1 a2 a3 a4).1 = fun _ => 1#1) (h1 : (fn (F := Ideal) a0 a1 a2 a3 a4).2.1 = fun _ => 1#1)
    (h2 : (fn (F := Ideal) a0 a1 a2 a3 a4).2.2 = fun _ => 1#1) :
    (∀ i, ∃ r : ℝ, a0 i = r) ∧ (∀ i, ∃ r : ℝ, a1 i = r) ∧ ∀ i, ∃ r : ℝ, a3 i = r :=
  ⟨fun i => real_of_test _ (congrFun h0 i), fun i => real_of_test _ (congrFun h1 i), fun i => real_of_test _ (congrFun h2 i)⟩
end

/-- An array cut along its columns, at an index of one block. -/
theorem block_cols {n : Nat} (T : (⟨2, ![n, 8192]⟩ : Shape).Idx → EReal) (c : Fin 8)
    (h : Layout.Tiles ⟨2, ![n, 1024]⟩ ⟨2, ![n, 8192]⟩ 1 8) (r : Fin n) (e : Fin 1024) :
    Layout.block ⟨2, ![n, 1024]⟩ ⟨2, ![n, 8192]⟩ 1 8 c T h (ix2 r e) = T (ix2 r ⟨c.val * 1024 + e.val, by omega⟩) :=
  congrArg T (funext fun a => match a with | 0 => rfl | 1 => rfl)

/-- An array cut along its rows, at an index of one block. -/
theorem block_rows {n : Nat} (T : (⟨2, ![8192, n]⟩ : Shape).Idx → EReal) (c : Fin 8)
    (h : Layout.Tiles ⟨2, ![1024, n]⟩ ⟨2, ![8192, n]⟩ 0 8) (e : Fin 1024) (r : Fin n) :
    Layout.block ⟨2, ![1024, n]⟩ ⟨2, ![8192, n]⟩ 0 8 c T h (ix2 e r) = T (ix2 ⟨c.val * 1024 + e.val, by omega⟩ r) :=
  congrArg T (funext fun a => match a with | 0 => rfl | 1 => rfl)

/-- A column of the whole is a column of one of the blocks. -/
theorem col_split (e : Fin 8192) : ∃ (c : Fin 8) (d : Fin 1024), e = ⟨c.val * 1024 + d.val, by omega⟩ :=
  ⟨⟨e.val / 1024, by omega⟩, ⟨e.val % 1024, Nat.mod_lt _ (by decide)⟩, Fin.ext (Nat.div_add_mod' _ _).symm⟩

theorem algebraic : Cert.algebraic_KernelIdeal_ReferenceIdeal_pre_scores_finite_KernelIdeal := by
  intro m g m' g' hp hb
  have hA : Parts (inp m) (m' ((Dev.tc 0).loc Cert.ReferenceIdeal.main_arg0)) (m' ((Dev.tc 0).loc Cert.ReferenceIdeal.main_arg1))
      (m' ((Dev.tc 0).loc Cert.ReferenceIdeal.main_arg2)) (m' ((Dev.tc 0).loc Cert.ReferenceIdeal.main_arg3))
      (m' ((Dev.tc 0).loc Cert.ReferenceIdeal.main_arg4)) :=
    ⟨fun c r t => by rw [inp_x]; exact congrFun (hb c).1 _,
      fun c t e => by rw [inp_wq]; exact (congrFun (hb c).2.1 _).trans (block_cols _ _ _ _ _),
      fun c e n => by rw [inp_wo]; exact (congrFun (hb c).2.2.1 _).trans (block_rows _ _ _ _ _),
      fun c j e => by rw [inp_k]; exact (congrFun (hb c).2.2.2.1 _).trans (block_cols _ _ _ _ _),
      fun c j e => by rw [inp_v]; exact (congrFun (hb c).2.2.2.2 _).trans (block_cols _ _ _ _ _)⟩
  have hf (c : Fin 8) := finite_of_pre _ _ _ _ _ (hp c).1 (hp c).2.1 (hp c).2.2
  have hv : (inp m).out = Cert.ReferenceIdeal.Value.res_main_v59 m' 0 := by
    rw [ref_eq]
    refine whole_eq hA (fun r t => ?_) (fun t e => ?_) (fun j e => ?_)
    · rw [← hA.x 0, inp_x]; exact (hf 0).1 _
    · obtain ⟨c, d, rfl⟩ := col_split e
      rw [← hA.wq c, inp_wq]; exact (hf c).2.1 _
    · obtain ⟨c, d, rfl⟩ := col_split e
      rw [← hA.k c, inp_k]; exact (hf c).2.2 _
  refine ⟨Cert.ReferenceIdeal.Value.res_main_v59 m' 0, ?_, ?_⟩
  · exact (θ_run Cert.KernelIdeal.defs _ _).mono
      (fun r h c => ⟨((h.1 c (5 : Fin 6)).trans (result m c)).trans hv, kept m h.1 c⟩) (run_main (F := Ideal) m g)
  · exact (θ_run Cert.ReferenceIdeal.defs _ _).mono (fun r h => h 0) (Cert.ReferenceIdeal.Value.run (F := Ideal) m' g')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  Cert.Attn.frame_kernel, Cert.Attn.frame_ideal, fun m g _ => Cert.Attn.frame_ideal m g trivial,
  Cert.Attn.frame_reference, fun m g _ => Cert.Attn.frame_reference m g trivial, trivial, Cert.Attn.algebraic⟩

end Cert.Proof

end
